-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0))) = (fun _ => 1#1)

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnIdeal_adaln_finite [hPre_adaln_finite : Cert.Pre_adaln_finite.Facts] (m : (ℓ : Loc Cert.AdalnIdeal.nD Cert.AdalnIdeal.τ Cert.AdalnIdeal.sig) → Buf (Elt Ideal) ℓ) : Prop :=
  ∀ c : Dev Cert.AdalnIdeal.nD,
    (Cert.Pre_adaln_finite.fn (F := Ideal) (m ((c.tc : Thread Cert.AdalnIdeal.nD Cert.AdalnIdeal.τ).loc Cert.AdalnIdeal.main_arg0)) (m ((c.tc : Thread Cert.AdalnIdeal.nD Cert.AdalnIdeal.τ).loc Cert.AdalnIdeal.main_arg1)) (m ((c.tc : Thread Cert.AdalnIdeal.nD Cert.AdalnIdeal.τ).loc Cert.AdalnIdeal.main_arg2))) = (fun _ => 1#1)

def Pre_AdalnRefIdeal (m : (ℓ : Loc Cert.AdalnRefIdeal.nD Cert.AdalnRefIdeal.τ Cert.AdalnRefIdeal.sig) → Buf (Elt Ideal) ℓ) : Prop :=
  True

def Pre_AdalnRefIdeal_adaln_finite [hPre_adaln_finite : Cert.Pre_adaln_finite.Facts] (m : (ℓ : Loc Cert.AdalnRefIdeal.nD Cert.AdalnRefIdeal.τ Cert.AdalnRefIdeal.sig) → Buf (Elt Ideal) ℓ) : Prop :=
  ∀ c : Dev Cert.AdalnRefIdeal.nD,
    (Cert.Pre_adaln_finite.fn (F := Ideal) (m ((c.tc : Thread Cert.AdalnRefIdeal.nD Cert.AdalnRefIdeal.τ).loc Cert.AdalnRefIdeal.main_arg0)) (m ((c.tc : Thread Cert.AdalnRefIdeal.nD Cert.AdalnRefIdeal.τ).loc Cert.AdalnRefIdeal.main_arg1)) (m ((c.tc : Thread Cert.AdalnRefIdeal.nD Cert.AdalnRefIdeal.τ).loc Cert.AdalnRefIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnIdeal_pre_adaln_finite [hAdalnIdeal : Cert.AdalnIdeal.Facts] [hPre_adaln_finite : Cert.Pre_adaln_finite.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal_adaln_finite m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_AdalnRefIdeal_pre_adaln_finite [hAdalnRefIdeal : Cert.AdalnRefIdeal.Facts] [hPre_adaln_finite : Cert.Pre_adaln_finite.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal_adaln_finite m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v100) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_Adaln_AdalnIdeal : Prop :=
  True

def algebraic_AdalnIdeal_AdalnRefIdeal_pre_adaln_finite [hAdalnIdeal : Cert.AdalnIdeal.Facts] [hAdalnRefIdeal : Cert.AdalnRefIdeal.Facts] [hPre_adaln_finite : Cert.Pre_adaln_finite.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal_adaln_finite m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v0)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v0) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v3) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def preserves_Proj_ProjIdeal : Prop :=
  IdealRules.named_const.Statement Cert.ProjIdeal.κ "s" .f32 0x3DB504F3#32 (((Real.sqrt 128)⁻¹ : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v105) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v36) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v52) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def Claim : Prop :=
  ∃ (hAttn : Cert.Attn.Facts) (hAttnIdeal : Cert.AttnIdeal.Facts) (hAttnRefIdeal : Cert.AttnRefIdeal.Facts) (hAdaln : Cert.Adaln.Facts) (hAdalnIdeal : Cert.AdalnIdeal.Facts) (hAdalnRefIdeal : Cert.AdalnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hPre_finite : Cert.Pre_finite.Facts) (hPre_adaln_finite : Cert.Pre_adaln_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Adaln (hAdaln := hAdaln)
    ∧ quiescent_AdalnIdeal (hAdalnIdeal := hAdalnIdeal)
    ∧ quiescent_AdalnIdeal_pre_adaln_finite (hAdalnIdeal := hAdalnIdeal) (hPre_adaln_finite := hPre_adaln_finite)
    ∧ quiescent_AdalnRefIdeal (hAdalnRefIdeal := hAdalnRefIdeal)
    ∧ quiescent_AdalnRefIdeal_pre_adaln_finite (hAdalnRefIdeal := hAdalnRefIdeal) (hPre_adaln_finite := hPre_adaln_finite)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Adaln_AdalnIdeal
    ∧ algebraic_AdalnIdeal_AdalnRefIdeal_pre_adaln_finite (hAdalnIdeal := hAdalnIdeal) (hAdalnRefIdeal := hAdalnRefIdeal) (hPre_adaln_finite := hPre_adaln_finite)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
-- ==== Pre_adaln_finite.lean ====
abbrev S8x1024 : Shape := ⟨2, ![8, 1024]⟩
abbrev S1024x6144 : Shape := ⟨2, ![1024, 6144]⟩
abbrev S1x6144 : Shape := ⟨2, ![1, 6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S8x1024 .f32) (main_arg1 : FVec F S1024x6144 .f32) (main_arg2 : FVec F S1x6144 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : IVec S_ 1 := andi main_v3 main_v7
  main_v8
-- ==== Pre_finite.lean ====
abbrev S16384x7168 : Shape := ⟨2, ![16384, 7168]⟩
abbrev S_ : Shape := ⟨0, ![]⟩

class Facts : Prop where
  bitsLt_bf16_f32 : FTy.bits .bf16 < FTy.bits .f32
  bcast_S_S16384x7168 : S_.BroadcastsInDim S16384x7168 (![] : Fin 0 → Fin S16384x7168.rank)
  reducesTo_S16384x7168_S_d0_1 : S16384x7168.ReducesTo [0, 1] S_
  h_S_ : 0 < S_.numel

variable [Facts]

def fn {F : FTy → Type} [FloatOps F] (main_arg0 : FVec F S16384x7168 .bf16) : IVec S_ 1 :=
  let main_v0 : FVec F S16384x7168 .f32 := (extf .f32 · bitsLt_bf16_f32) main_arg0
  let main_v1 : FVec F S16384x7168 .f32 := Host.absf main_v0
  let main_cst : FVec F S_ .f32 := constant S_ .f32 0x7F800000#32
  let main_v2 : FVec F S16384x7168 .f32 := broadcastInDim S16384x7168 ![] bcast_S_S16384x7168 main_cst
  let main_v3 : IVec S16384x7168 1 := cmpf .olt main_v1 main_v2
  let main_c : IVec S_ 1 := constantI S_ 1 1#1
  let main_v4 : IVec S_ 1 := (fun x v => Host.reduce IntOp.andi x v reducesTo_S16384x7168_S_d0_1 h_S_) main_v3 main_c
  main_v4
-- ==== Attn.lean ====
abbrev S16384x7168 : Shape := ⟨2, ![16384, 7168]⟩
abbrev S16384x1024 : Shape := ⟨2, ![16384, 1024]⟩
abbrev S4096x128 : Shape := ⟨2, ![4096, 128]⟩
abbrev S128x128 : Shape := ⟨2, ![128, 128]⟩
abbrev S256x128 : Shape := ⟨2, ![256, 128]⟩
abbrev S128 : Shape := ⟨1, ![128]⟩
abbrev S1x128 : Shape := ⟨2, ![1, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 9
  | .smem => 0
  | _ => 0

abbrev bufTy : (tb : Table) → Fin (tcTables nBuf tb) → BufTy
  | .hbm, ⟨0, _⟩ => ⟨S16384x7168, .bf16⟩
  | .hbm, ⟨1, _⟩ => ⟨S16384x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S128x128, .f32⟩
  | _, _ => ⟨S16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c16_i32 : BitVec 32 := 16#32
  let v153 : BitVec 32 := Scalar.addi c0_i32 c16_i32
  let c1_i32 : BitVec 32 := 1#32
  ⟨c0_i32, v153, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v154 : BitVec 32 := Scalar.muli arg7 c256_i32
  v154
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v154 : BitVec 32 := Scalar.muli arg7 c256_i32
  let v155 : BitVec 32 := v154
  let v157 : Index := Scalar.indexCast v155
  let c0_68 : Index := 0#32
  ![v157.toNat, 0]
@[reducible] def k0_t2_loop (k0_t1 : Fin k0_t1_loop.trips) : Scf.Loop 32 :=
  let c0_i32_96 : BitVec 32 := 0#32
  let c0_i32 : BitVec 32 := 0#32
  let c1_i32 : BitVec 32 := 1#32
  let arg7 : BitVec 32 := Scf.iv c0_i32 c1_i32 k0_t1
  let v240 : BitVec 32 := Scalar.subi arg7 c0_i32_96
  let c1_i32_97 : BitVec 32 := 1#32
  let v242 : BitVec 32 := Scalar.divsi v240 c1_i32_97
  let v243 : BitVec 32 := Scalar.muli v242 c1_i32_97
  let v244 : BitVec 32 := Scalar.addi c0_i32_96 v243
  let c1_i32_98 : BitVec 32 := 1#32
  ⟨c0_i32_96, v244, c1_i32_98⟩
def k0_mult2 (k0_t1 : Fin k0_t1_loop.trips) (k0_t2 : Fin (k0_t2_loop k0_t1).trips) : BitVec 32 :=
  let c0_i32_96 : BitVec 32 := 0#32
  let c1_i32_98 : BitVec 32 := 1#32
  let arg8 : BitVec 32 := Scf.iv c0_i32_96 c1_i32_98 k0_t2
  let c256_i32_101 : BitVec 32 := 256#32
  let v252 : BitVec 32 := Scalar.muli arg8 c256_i32_101
  v252
def k0_off2 (k0_t1 : Fin k0_t1_loop.trips) (k0_t2 : Fin (k0_t2_loop k0_t1).trips) : Fin 2 → Nat :=
  let c0_i32_96 : BitVec 32 := 0#32
  let c1_i32_98 : BitVec 32 := 1#32
  let arg8 : BitVec 32 := Scf.iv c0_i32_96 c1_i32_98 k0_t2
  let c256_i32_101 : BitVec 32 := 256#32
  let v252 : BitVec 32 := Scalar.muli arg8 c256_i32_101
  let v253 : BitVec 32 := v252
  let v261 : Index := Scalar.indexCast v253
  let c0_104 : Index := 0#32
  ![v261.toNat, 0]
@[reducible] def k0_t3_loop (k0_t1 : Fin k0_t1_loop.trips) : Scf.Loop 32 :=
  let c0_i32_96 : BitVec 32 := 0#32
  let c0_i32 : BitVec 32 := 0#32
  let c1_i32 : BitVec 32 := 1#32
  let arg7 : BitVec 32 := Scf.iv c0_i32 c1_i32 k0_t1
  let v240 : BitVec 32 := Scalar.subi arg7 c0_i32_96
  let c1_i32_97 : BitVec 32 := 1#32
  let v242 : BitVec 32 := Scalar.divsi v240 c1_i32_97
  let v243 : BitVec 32 := Scalar.muli v242 c1_i32_97
  let v244 : BitVec 32 := Scalar.addi c0_i32_96 v243
  let v241 : BitVec 32 := Scalar.addi c0_i32_96 v240
  let c1_i32_99 : BitVec 32 := 1#32
  ⟨v244, v241, c1_i32_99⟩
def k0_mult3 (k0_t1 : Fin k0_t1_loop.trips) (k0_t3 : Fin (k0_t3_loop k0_t1).trips) : BitVec 32 :=
  let c0_i32_96 : BitVec 32 := 0#32
  let c0_i32 : BitVec 32 := 0#32
  let c1_i32 : BitVec 32 := 1#32
  let arg7 : BitVec 32 := Scf.iv c0_i32 c1_i32 k0_t1
  let v240 : BitVec 32 := Scalar.subi arg7 c0_i32_96
  let c1_i32_97 : BitVec 32 := 1#32
  let v242 : BitVec 32 := Scalar.divsi v240 c1_i32_97
  let v243 : BitVec 32 := Scalar.muli v242 c1_i32_97
  let v244 : BitVec 32 := Scalar.addi c0_i32_96 v243
  let c1_i32_99 : BitVec 32 := 1#32
  let arg8 : BitVec 32 := Scf.iv v244 c1_i32_99 k0_t3
  let c256_i32_101 : BitVec 32 := 256#32
  let v252 : BitVec 32 := Scalar.muli arg8 c256_i32_101
  v252
def k0_off3 (k0_t1 : Fin k0_t1_loop.trips) (k0_t3 : Fin (k0_t3_loop k0_t1).trips) : Fin 2 → Nat :=
  let c0_i32_96 : BitVec 32 := 0#32
  let c0_i32 : BitVec 32 := 0#32
  let c1_i32 : BitVec 32 := 1#32
  let arg7 : BitVec 32 := Scf.iv c0_i32 c1_i32 k0_t1
  let v240 : BitVec 32 := Scalar.subi arg7 c0_i32_96
  let c1_i32_97 : BitVec 32 := 1#32
  let v242 : BitVec 32 := Scalar.divsi v240 c1_i32_97
  let v243 : BitVec 32 := Scalar.muli v242 c1_i32_97
  let v244 : BitVec 32 := Scalar.addi c0_i32_96 v243
  let c1_i32_99 : BitVec 32 := 1#32
  let arg8 : BitVec 32 := Scf.iv v244 c1_i32_99 k0_t3
  let c256_i32_101 : BitVec 32 := 256#32
  let v252 : BitVec 32 := Scalar.muli arg8 c256_i32_101
  let v253 : BitVec 32 := v252
  let v261 : Index := Scalar.indexCast v253
  let c0_104 : Index := 0#32
  ![v261.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S16384x7168 : Shape := ⟨2, ![16384, 7168]⟩
abbrev S4x4096x7168 : Shape := ⟨3, ![4, 4096, 7168]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S32x4096x128 : Shape := ⟨3, ![32, 4096, 128]⟩
abbrev S32x16x256x128 : Shape := ⟨4, ![32, 16, 256, 128]⟩
abbrev S_ : Shape := ⟨0, ![]⟩
abbrev S32x16x128 : Shape := ⟨3, ![32, 16, 128]⟩
abbrev S4096 : Shape := ⟨1, ![4096]⟩
abbrev S32x4096x16 : Shape := ⟨3, ![32, 4096, 16]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S1x4096x16 : Shape := ⟨3, ![1, 4096, 16]⟩
abbrev S32x4096x3 : Shape := ⟨3, ![32, 4096, 3]⟩
abbrev S1x4096x1 : Shape := ⟨3, ![1, 4096, 1]⟩
abbrev S32x4096x3x1 : Shape := ⟨4, ![32, 4096, 3, 1]⟩
abbrev S32x4096x3x256x128 : Shape := ⟨5, ![32, 4096, 3, 256, 128]⟩
abbrev S32x4096x3x256 : Shape := ⟨4, ![32, 4096, 3, 256]⟩
abbrev S32x4096x768 : Shape := ⟨3, ![32, 4096, 768]⟩
abbrev S32x4096x256x128 : Shape := ⟨4, ![32, 4096, 256, 128]⟩
abbrev S32x4096x256 : Shape := ⟨3, ![32, 4096, 256]⟩
abbrev S256 : Shape := ⟨1, ![256]⟩
abbrev S1x256 : Shape := ⟨2, ![1, 256]⟩
abbrev S4096x256 : Shape := ⟨2, ![4096, 256]⟩
abbrev S1x4096x256 : Shape := ⟨3, ![1, 4096, 256]⟩
abbrev S32x4096x1024 : Shape := ⟨3, ![32, 4096, 1024]⟩
abbrev S32x4096 : Shape := ⟨2, ![32, 4096]⟩
abbrev S32x4096x1 : Shape := ⟨3, ![32, 4096, 1]⟩
abbrev S16384x1024 : Shape := ⟨2, ![16384, 1024]⟩

abbrev nBuf : Space → Nat
  | .hbm => 147
  | .vmem => 0
  | .smem => 0
  | _ => 0

abbrev hbmTy0_0 (i : Nat) : BufTy := match i % 128 with
  | 0 => ⟨S16384x7168, .bf16⟩
  | 1 => ⟨S16384x7168, .f32⟩
  | 2 => ⟨S4x4096x7168, .f32⟩
  | 3 => ⟨S4x4096x1024, .f32⟩
  | 4 => ⟨S4x4096x8x128, .f32⟩
  | 5 => ⟨S4x8x4096x128, .f32⟩
  | 6 => ⟨S32x4096x128, .f32⟩
  | 7 => ⟨S4x4096x1024, .f32⟩
  | 8 => ⟨S4x4096x8x128, .f32⟩
  | 9 => ⟨S4x8x4096x128, .f32⟩
  | 10 => ⟨S32x4096x128, .f32⟩
  | 11 => ⟨S4x4096x1024, .f32⟩
  | 12 => ⟨S4x4096x8x128, .f32⟩
  | 13 => ⟨S4x8x4096x128, .f32⟩
  | 14 => ⟨S32x4096x128, .f32⟩
  | 15 => ⟨S32x16x256x128, .f32⟩
  | 16 => ⟨S32x16x256x128, .f32⟩
  | 17 => ⟨S_, .f32⟩
  | 18 => ⟨S32x16x128, .f32⟩
  | 19 => ⟨S_, .f32⟩
  | 20 => ⟨S32x16x128, .f32⟩
  | 21 => ⟨S32x16x128, .f32⟩
  | 22 => ⟨S4096, .i32⟩
  | 23 => ⟨S_, .i32⟩
  | 24 => ⟨S_, .i32⟩
  | 25 => ⟨S4096, .i32⟩
  | 26 => ⟨S4096, .i32⟩
  | 27 => ⟨S4096, .i32⟩
  | 28 => ⟨S_, .i32⟩
  | 29 => ⟨S4096, .i32⟩
  | 30 => ⟨S4096, .i1⟩
  | 31 => ⟨S4096, .i32⟩
  | 32 => ⟨S4096, .i32⟩
  | 33 => ⟨S_, .i32⟩
  | 34 => ⟨S4096, .i32⟩
  | 35 => ⟨S4096, .i1⟩
  | 36 => ⟨S4096, .i1⟩
  | 37 => ⟨S_, .i32⟩
  | 38 => ⟨S4096, .i32⟩
  | 39 => ⟨S4096, .i32⟩
  | 40 => ⟨S4096, .i32⟩
  | 41 => ⟨S32x4096x16, .f32⟩
  | 42 => ⟨S16, .i32⟩
  | 43 => ⟨S1x16, .i32⟩
  | 44 => ⟨S4096x1, .i32⟩
  | 45 => ⟨S4096x16, .i32⟩
  | 46 => ⟨S4096x16, .i32⟩
  | 47 => ⟨S4096x16, .i1⟩
  | 48 => ⟨S1x4096x16, .i1⟩
  | 49 => ⟨S_, .f32⟩
  | 50 => ⟨S_, .f32⟩
  | 51 => ⟨S32x4096x16, .i1⟩
  | 52 => ⟨S32x4096x16, .f32⟩
  | 53 => ⟨S32x4096x16, .f32⟩
  | 54 => ⟨S32x4096x3, .f32⟩
  | 55 => ⟨S32x4096x3, .i32⟩
  | 56 => ⟨S1x4096x1, .i32⟩
  | 57 => ⟨S32x4096x3, .i32⟩
  | 58 => ⟨S32x4096x3, .i1⟩
  | 59 => ⟨S_, .i32⟩
  | 60 => ⟨S32x4096x3, .i32⟩
  | 61 => ⟨S32x4096x3, .i1⟩
  | 62 => ⟨S_, .i32⟩
  | 63 => ⟨S32x4096x3, .i32⟩
  | 64 => ⟨S32x4096x3, .i32⟩
  | 65 => ⟨S32x4096x3, .i32⟩
  | 66 => ⟨S32x4096x3x1, .i32⟩
  | 67 => ⟨S32x4096x3x256x128, .f32⟩
  | 68 => ⟨S_, .i32⟩
  | 69 => ⟨S32x4096x3, .i32⟩
  | 70 => ⟨S32x4096x3, .i1⟩
  | 71 => ⟨S_, .i32⟩
  | 72 => ⟨S32x4096x3, .i32⟩
  | 73 => ⟨S32x4096x3, .i32⟩
  | 74 => ⟨S32x4096x3, .i32⟩
  | 75 => ⟨S32x4096x3x1, .i32⟩
  | 76 => ⟨S32x4096x3x256x128, .f32⟩
  | 77 => ⟨S32x4096x3x256, .f32⟩
  | 78 => ⟨S32x4096x3x1, .i1⟩
  | 79 => ⟨S_, .f32⟩
  | 80 => ⟨S_, .f32⟩
  | 81 => ⟨S32x4096x3x256, .i1⟩
  | 82 => ⟨S32x4096x3x256, .f32⟩
  | 83 => ⟨S32x4096x3x256, .f32⟩
  | 84 => ⟨S32x4096x768, .f32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S32x4096x256x128, .f32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S32x4096x256x128, .f32⟩
  | 103 => ⟨S32x4096x256, .f32⟩
  | 104 => ⟨S4096x1, .i32⟩
  | 105 => ⟨S_, .i32⟩
  | 106 => ⟨S4096x1, .i32⟩
  | 107 => ⟨S4096x1, .i32⟩
  | 108 => ⟨S256, .i32⟩
  | 109 => ⟨S1x256, .i32⟩
  | 110 => ⟨S4096x256, .i32⟩
  | 111 => ⟨S4096x256, .i32⟩
  | 112 => ⟨S4096x256, .i32⟩
  | 113 => ⟨S4096x1, .i32⟩
  | 114 => ⟨S4096x256, .i32⟩
  | 115 => ⟨S4096x256, .i1⟩
  | 116 => ⟨S1x4096x256, .i1⟩
  | 117 => ⟨S_, .f32⟩
  | 118 => ⟨S_, .f32⟩
  | 119 => ⟨S32x4096x256, .i1⟩
  | 120 => ⟨S32x4096x256, .f32⟩
  | 121 => ⟨S32x4096x256, .f32⟩
  | 122 => ⟨S32x4096x1024, .f32⟩
  | 123 => ⟨S_, .f32⟩
  | 124 => ⟨S32x4096, .f32⟩
  | 125 => ⟨S_, .f32⟩
  | 126 => ⟨S32x4096, .f32⟩
  | 127 => ⟨S32x4096, .f32⟩
  | _ => ⟨S16384x7168, .bf16⟩

abbrev hbmTy0_1 (i : Nat) : BufTy := match i % 128 with
  | 0 => ⟨S32x4096x1, .f32⟩
  | 1 => ⟨S32x4096x1024, .f32⟩
  | 2 => ⟨S32x4096x1024, .f32⟩
  | 3 => ⟨S32x4096x1024, .f32⟩
  | 4 => ⟨S_, .f32⟩
  | 5 => ⟨S32x4096, .f32⟩
  | 6 => ⟨S32x4096x1, .f32⟩
  | 7 => ⟨S32x4096x1024, .f32⟩
  | 8 => ⟨S32x4096x1024, .f32⟩
  | 9 => ⟨S32x4096x768, .f32⟩
  | 10 => ⟨S32x4096x3x256, .f32⟩
  | 11 => ⟨S32x4096x256, .f32⟩
  | 12 => ⟨S32x4096x128, .f32⟩
  | 13 => ⟨S32x4096x128, .f32⟩
  | 14 => ⟨S32x4096x128, .f32⟩
  | 15 => ⟨S4x8x4096x128, .f32⟩
  | 16 => ⟨S4x4096x8x128, .f32⟩
  | 17 => ⟨S16384x1024, .f32⟩
  | 18 => ⟨S16384x1024, .bf16⟩
  | _ => ⟨S16384x7168, .bf16⟩

abbrev hbmTy (i : Nat) : BufTy := match i / 128 with
  | 0 => hbmTy0_0 i
  | 1 => hbmTy0_1 i
  | _ => ⟨S16384x7168, .bf16⟩

abbrev bufTy : (tb : Table) → Fin (tcTables nBuf tb) → BufTy
  | .hbm, ⟨i, _⟩ => hbmTy i
  | _, _ => ⟨S16384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_cst : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_1 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_values : Ref sig .tc := ⟨.hbm, 54, rfl⟩
abbrev main_indices : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_2 : Ref sig .tc := ⟨.hbm, 59, rfl⟩
abbrev main_v33 : Ref sig .tc := ⟨.hbm, 60, rfl⟩
abbrev main_v34 : Ref sig .tc := ⟨.hbm, 61, rfl⟩
abbrev main_c_3 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_4 : Ref sig .tc := ⟨.hbm, 68, rfl⟩
abbrev main_v40 : Ref sig .tc := ⟨.hbm, 69, rfl⟩
abbrev main_v41 : Ref sig .tc := ⟨.hbm, 70, rfl⟩
abbrev main_c_5 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_6 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v49 : Ref sig .tc := ⟨.hbm, 83, rfl⟩
abbrev main_v50 : Ref sig .tc := ⟨.hbm, 84, rfl⟩
abbrev main_c_7 : Ref sig .tc := ⟨.hbm, 85, rfl⟩
abbrev main_v51 : Ref sig .tc := ⟨.hbm, 86, rfl⟩
abbrev main_v52 : Ref sig .tc := ⟨.hbm, 87, rfl⟩
abbrev main_c_8 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_9 : Ref sig .tc := ⟨.hbm, 94, rfl⟩
abbrev main_v58 : Ref sig .tc := ⟨.hbm, 95, rfl⟩
abbrev main_v59 : Ref sig .tc := ⟨.hbm, 96, rfl⟩
abbrev main_c_10 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_11 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_12 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_v78 : Ref sig .tc := ⟨.hbm, 121, rfl⟩
abbrev main_v79 : Ref sig .tc := ⟨.hbm, 122, rfl⟩
abbrev main_cst_13 : Ref sig .tc := ⟨.hbm, 123, rfl⟩
abbrev main_v80 : Ref sig .tc := ⟨.hbm, 124, rfl⟩
abbrev main_cst_14 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_15 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩

abbrev nD : Nat := 1
abbrev τ : Topo := Topo.v7x

variable {F : FTy → Type} [FloatOps F]
-- ==== Adaln.lean ====
abbrev S8x1024 : Shape := ⟨2, ![8, 1024]⟩
abbrev S1024x6144 : Shape := ⟨2, ![1024, 6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S1x6144, .f32⟩
  | .hbm, ⟨3, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnRefIdeal.lean ====
abbrev S8x1024 : Shape := ⟨2, ![8, 1024]⟩
abbrev S1024x6144 : Shape := ⟨2, ![1024, 6144]⟩
abbrev S1x6144 : Shape := ⟨2, ![1, 6144]⟩
abbrev S_ : Shape := ⟨0, ![]⟩
abbrev S8x6144 : Shape := ⟨2, ![8, 6144]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S8x6144, .f32⟩
  | .hbm, ⟨14, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proj.lean ====
abbrev S16384x1024 : Shape := ⟨2, ![16384, 1024]⟩
abbrev S4x6x1024 : Shape := ⟨3, ![4, 6, 1024]⟩
abbrev S1x1024 : Shape := ⟨2, ![1, 1024]⟩
abbrev S1024x7168 : Shape := ⟨2, ![1024, 7168]⟩
abbrev S16384x7168 : Shape := ⟨2, ![16384, 7168]⟩
abbrev S512x1024 : Shape := ⟨2, ![512, 1024]⟩
abbrev S1x6x1024 : Shape := ⟨3, ![1, 6, 1024]⟩
abbrev S1024x1024 : Shape := ⟨2, ![1024, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1x1024, .f32⟩
  | .hbm, ⟨3, _⟩ => ⟨S1024x7168, .f32⟩
  | .hbm, ⟨4, _⟩ => ⟨S1x1024, .f32⟩
  | .hbm, ⟨5, _⟩ => ⟨S1x1024, .f32⟩
  | .hbm, ⟨6, _⟩ => ⟨S1024x7168, .bf16⟩
  | .hbm, ⟨7, _⟩ => ⟨S16384x7168, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 7], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let c4_i32 : BitVec 32 := 4#32
  let v17 : BitVec 1 := Scalar.cmpi .eq arg1 c4_i32
  let v18 : BitVec 1 := Scalar.ori v16 v17
  let v19 : BitVec 32 := Scalar.extui v18
  let c0_i32_8 : BitVec 32 := 0#32
  let v20 : BitVec 1 := Scalar.cmpi .ne v19 c0_i32_8
  v20

def k0_cond6 (i : grid0.Coords) : BitVec 1 :=
  let arg1 : BitVec 32 := BitVec.ofNat 32 (i 1).val
  let c5_i32 : BitVec 32 := 5#32
  let v21 : BitVec 1 := Scalar.cmpi .sge arg1 c5_i32
  let v22 : BitVec 32 := Scalar.extui v21
  let c0_i32_9 : BitVec 32 := 0#32
  let v23 : BitVec 1 := Scalar.cmpi .ne v22 c0_i32_9
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjIdeal.lean ====
variable {F : FTy → Type} [FloatOps F] [Named F]
def κ : String → Option EReal := fun
  | "s" => some (((Real.sqrt 128)⁻¹ : ℝ) : EReal)
  | _ => none
-- ==== ProjRefIdeal.lean ====
abbrev S16384x1024 : Shape := ⟨2, ![16384, 1024]⟩
abbrev S4x6x1024 : Shape := ⟨3, ![4, 6, 1024]⟩
abbrev S1x1024 : Shape := ⟨2, ![1, 1024]⟩
abbrev S1024x7168 : Shape := ⟨2, ![1024, 7168]⟩
abbrev S4x4096x1024 : Shape := ⟨3, ![4, 4096, 1024]⟩
abbrev S4x1x1024 : Shape := ⟨3, ![4, 1, 1024]⟩
abbrev S4x1024 : Shape := ⟨2, ![4, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x7168 : Shape := ⟨3, ![4, 4096, 7168]⟩
abbrev S16384x7168 : Shape := ⟨2, ![16384, 7168]⟩

abbrev nBuf : Space → Nat
  | .hbm => 135
  | .vmem => 0
  | .smem => 0
  | _ => 0

abbrev hbmTy0_0 (i : Nat) : BufTy := match i % 128 with
  | 0 => ⟨S16384x1024, .f32⟩
  | 1 => ⟨S4x6x1024, .f32⟩
  | 2 => ⟨S1x1024, .f32⟩
  | 3 => ⟨S1024x7168, .f32⟩
  | 4 => ⟨S1x1024, .f32⟩
  | 5 => ⟨S1x1024, .f32⟩
  | 6 => ⟨S4x4096x1024, .f32⟩
  | 7 => ⟨S4x1x1024, .f32⟩
  | 8 => ⟨S4x1024, .f32⟩
  | 9 => ⟨S4x1x1024, .f32⟩
  | 10 => ⟨S4x1024, .f32⟩
  | 11 => ⟨S1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S4x1x1024, .f32⟩
  | 29 => ⟨S_, .f32⟩
  | 30 => ⟨S4x1x1024, .f32⟩
  | 31 => ⟨S4x1x1024, .f32⟩
  | 32 => ⟨S4x4096x1024, .f32⟩
  | 33 => ⟨S4x4096x1024, .f32⟩
  | 34 => ⟨S4x1x1024, .f32⟩
  | 35 => ⟨S4x4096x1024, .f32⟩
  | 36 => ⟨S4x4096x1024, .f32⟩
  | 37 => ⟨S4x4096x7168, .f32⟩
  | 38 => ⟨S4x4096x1024, .f32⟩
  | 39 => ⟨S4x4096x1024, .f32⟩
  | 40 => ⟨S4x4096x1024, .f32⟩
  | 41 => ⟨S4x4096x1024, .f32⟩
  | 42 => ⟨S4x4096x1024, .f32⟩
  | 43 => ⟨S4x4096x1024, .f32⟩
  | 44 => ⟨S4x4096x1024, .f32⟩
  | 45 => ⟨S4x4096x1024, .f32⟩
  | 46 => ⟨S4x4096x1024, .f32⟩
  | 47 => ⟨S_, .f32⟩
  | 48 => ⟨S4x4096x1024, .f32⟩
  | 49 => ⟨S4x4096x1024, .f32⟩
  | 50 => ⟨S4x4096x1024, .f32⟩
  | 51 => ⟨S_, .f32⟩
  | 52 => ⟨S4x4096x1024, .f32⟩
  | 53 => ⟨S4x4096x1024, .f32⟩
  | 54 => ⟨S4x4096x1024, .f32⟩
  | 55 => ⟨S_, .f32⟩
  | 56 => ⟨S4x4096x1024, .f32⟩
  | 57 => ⟨S4x4096x1024, .f32⟩
  | 58 => ⟨S_, .f32⟩
  | 59 => ⟨S4x4096x1024, .f32⟩
  | 60 => ⟨S4x4096x1024, .f32⟩
  | 61 => ⟨S4x4096x1024, .f32⟩
  | 62 => ⟨S4x4096x1024, .f32⟩
  | 63 => ⟨S4x4096x1024, .f32⟩
  | 64 => ⟨S_, .f32⟩
  | 65 => ⟨S4x4096x1024, .f32⟩
  | 66 => ⟨S4x4096x1024, .f32⟩
  | 67 => ⟨S4x4096x1024, .f32⟩
  | 68 => ⟨S_, .f32⟩
  | 69 => ⟨S4x4096x1024, .f32⟩
  | 70 => ⟨S4x4096x1024, .f32⟩
  | 71 => ⟨S4x4096x1024, .f32⟩
  | 72 => ⟨S_, .f32⟩
  | 73 => ⟨S4x4096x1024, .f32⟩
  | 74 => ⟨S4x4096x1024, .f32⟩
  | 75 => ⟨S_, .f32⟩
  | 76 => ⟨S4x4096x1024, .f32⟩
  | 77 => ⟨S4x4096x1024, .f32⟩
  | 78 => ⟨S4x4096x1024, .f32⟩
  | 79 => ⟨S_, .f32⟩
  | 80 => ⟨S4x4096, .f32⟩
  | 81 => ⟨S4x4096x1, .f32⟩
  | 82 => ⟨S_, .f32⟩
  | 83 => ⟨S4x4096x1, .f32⟩
  | 84 => ⟨S4x4096x1, .f32⟩
  | 85 => ⟨S4x4096x1024, .f32⟩
  | 86 => ⟨S4x4096x1024, .f32⟩
  | 87 => ⟨S4x4096x1024, .f32⟩
  | 88 => ⟨S_, .f32⟩
  | 89 => ⟨S4x4096, .f32⟩
  | 90 => ⟨S4x4096x1, .f32⟩
  | 91 => ⟨S_, .f32⟩
  | 92 => ⟨S4x4096x1, .f32⟩
  | 93 => ⟨S4x4096x1, .f32⟩
  | 94 => ⟨S4x4096x1024, .f32⟩
  | 95 => ⟨S4x4096x1024, .f32⟩
  | 96 => ⟨S_, .f32⟩
  | 97 => ⟨S4x4096x1, .f32⟩
  | 98 => ⟨S4x4096x1, .f32⟩
  | 99 => ⟨S4x4096x1, .f32⟩
  | 100 => ⟨S4x4096x1024, .f32⟩
  | 101 => ⟨S4x4096x1024, .f32⟩
  | 102 => ⟨S1024, .f32⟩
  | 103 => ⟨S1x1x1024, .f32⟩
  | 104 => ⟨S4x4096x1024, .f32⟩
  | 105 => ⟨S4x4096x1024, .f32⟩
  | 106 => ⟨S1024, .f32⟩
  | 107 => ⟨S1x1x1024, .f32⟩
  | 108 => ⟨S4x4096x1024, .f32⟩
  | 109 => ⟨S4x4096x1024, .f32⟩
  | 110 => ⟨S_, .f32⟩
  | 111 => ⟨S_, .f32⟩
  | 112 => ⟨S_, .f32⟩
  | 113 => ⟨S_, .f32⟩
  | 114 => ⟨S4x4096x1024, .f32⟩
  | 115 => ⟨S4x4096x1024, .f32⟩
  | 116 => ⟨S4x4096x1024, .f32⟩
  | 117 => ⟨S4x4096x1024, .f32⟩
  | 118 => ⟨S_, .f32⟩
  | 119 => ⟨S4x4096x1024, .f32⟩
  | 120 => ⟨S4x4096x1024, .f32⟩
  | 121 => ⟨S_, .f32⟩
  | 122 => ⟨S4x4096x1024, .f32⟩
  | 123 => ⟨S4x4096x1024, .f32⟩
  | 124 => ⟨S4x4096x1024, .f32⟩
  | 125 => ⟨S4x4096x1024, .f32⟩
  | 126 => ⟨S_, .f32⟩
  | 127 => ⟨S4x4096x1024, .f32⟩
  | _ => ⟨S16384x1024, .f32⟩

abbrev hbmTy0_1 (i : Nat) : BufTy := match i % 128 with
  | 0 => ⟨S4x4096x1024, .f32⟩
  | 1 => ⟨S_, .f32⟩
  | 2 => ⟨S4x4096x1024, .f32⟩
  | 3 => ⟨S4x4096x1024, .f32⟩
  | 4 => ⟨S4x4096x7168, .f32⟩
  | 5 => ⟨S16384x7168, .f32⟩
  | 6 => ⟨S16384x7168, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_16 : Ref sig .tc := ⟨.hbm, 110, rfl⟩
abbrev main_v87 : Ref sig .tc := ⟨.hbm, 111, rfl⟩
abbrev main_cst_17 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_18 : Ref sig .tc := ⟨.hbm, 118, rfl⟩
abbrev main_v93 : Ref sig .tc := ⟨.hbm, 119, rfl⟩
abbrev main_v94 : Ref sig .tc := ⟨.hbm, 120, rfl⟩
abbrev main_cst_19 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_20 : Ref sig .tc := ⟨.hbm, 126, rfl⟩
abbrev main_v99 : Ref sig .tc := ⟨.hbm, 127, rfl⟩
abbrev main_v100 : Ref sig .tc := ⟨.hbm, 128, rfl⟩
abbrev main_cst_21 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩

abbrev nD : Nat := 1
abbrev τ : Topo := Topo.v7x

variable {F : FTy → Type} [FloatOps F]
-- ==== Merge.lean ====
abbrev S16384x1024 : Shape := ⟨2, ![16384, 1024]⟩
abbrev S16384x7168 : Shape := ⟨2, ![16384, 7168]⟩
abbrev S8x128x128 : Shape := ⟨3, ![8, 128, 128]⟩
abbrev S8x128 : Shape := ⟨2, ![8, 128]⟩
abbrev S1024x1024 : Shape := ⟨2, ![1024, 1024]⟩
abbrev S4x6x1024 : Shape := ⟨3, ![4, 6, 1024]⟩
abbrev S128x8 : Shape := ⟨2, ![128, 8]⟩
abbrev S512x1024 : Shape := ⟨2, ![512, 1024]⟩
abbrev S1x6x1024 : Shape := ⟨3, ![1, 6, 1024]⟩
abbrev S128x128 : Shape := ⟨2, ![128, 128]⟩
abbrev S1x128x128 : Shape := ⟨3, ![1, 128, 128]⟩
abbrev S128x1 : Shape := ⟨2, ![128, 1]⟩
abbrev S1x1x1024 : Shape := ⟨3, ![1, 1, 1024]⟩
abbrev S1x1024 : Shape := ⟨2, ![1, 1024]⟩

abbrev nBuf : Space → Nat
  | .hbm => 14
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x7168, .bf16⟩
  | .hbm, ⟨2, _⟩ => ⟨S16384x1024, .bf16⟩
  | .hbm, ⟨3, _⟩ => ⟨S8x128x128, .f32⟩
  | .hbm, ⟨4, _⟩ => ⟨S8x128, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4x6x1024, .f32⟩
  | .hbm, ⟨9, _⟩ => ⟨S128x8, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S8x128x128, .f32⟩
  | .local _ .vmem, ⟨13, _⟩ => ⟨S128x8, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x6x1024, .f32⟩
  | .local _ .vmem, ⟨18, _⟩ => ⟨S1x6x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x6x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S16384x1024 : Shape := ⟨2, ![16384, 1024]⟩
abbrev S16384x7168 : Shape := ⟨2, ![16384, 7168]⟩
abbrev S8x128x128 : Shape := ⟨3, ![8, 128, 128]⟩
abbrev S8x128 : Shape := ⟨2, ![8, 128]⟩
abbrev S1024x1024 : Shape := ⟨2, ![1024, 1024]⟩
abbrev S4x6x1024 : Shape := ⟨3, ![4, 6, 1024]⟩
abbrev S4x4096x7168 : Shape := ⟨3, ![4, 4096, 7168]⟩
abbrev S4x4096x1024 : Shape := ⟨3, ![4, 4096, 1024]⟩
abbrev S4x32x128x8x128 : Shape := ⟨5, ![4, 32, 128, 8, 128]⟩
abbrev S_ : Shape := ⟨0, ![]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩
abbrev S4x1x1024 : Shape := ⟨3, ![4, 1, 1024]⟩
abbrev S4x1024 : Shape := ⟨2, ![4, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x7168, .bf16⟩
  | .hbm, ⟨2, _⟩ => ⟨S16384x1024, .bf16⟩
  | .hbm, ⟨3, _⟩ => ⟨S8x128x128, .f32⟩
  | .hbm, ⟨4, _⟩ => ⟨S8x128, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4x6x1024, .f32⟩
  | .hbm, ⟨9, _⟩ => ⟨S16384x7168, .f32⟩
  | .hbm, ⟨10, _⟩ => ⟨S4x4096x7168, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S4x32x128x8x128, .f32⟩
  | .hbm, ⟨16, _⟩ => ⟨S_, .i1⟩
  | .hbm, ⟨17, _⟩ => ⟨S128x128, .i1⟩
  | .hbm, ⟨18, _⟩ => ⟨S128x128, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S128x128, .i1⟩
  | .hbm, ⟨24, _⟩ => ⟨S_, .i1⟩
  | .hbm, ⟨25, _⟩ => ⟨S128x128, .i1⟩
  | .hbm, ⟨26, _⟩ => ⟨S128x128, .i1⟩
  | .hbm, ⟨27, _⟩ => ⟨S128x128, .f32⟩
  | .hbm, ⟨28, _⟩ => ⟨S1x128x128, .f32⟩
  | .hbm, ⟨29, _⟩ => ⟨S8x128x128, .f32⟩
  | .hbm, ⟨30, _⟩ => ⟨S8x128x128, .f32⟩
  | .hbm, ⟨31, _⟩ => ⟨S8x4x32x128x128, .f32⟩
  | .hbm, ⟨32, _⟩ => ⟨S4x32x128x8x128, .f32⟩
  | .hbm, ⟨33, _⟩ => ⟨S128x8, .f32⟩
  | .hbm, ⟨34, _⟩ => ⟨S1x1x128x8x1, .f32⟩
  | .hbm, ⟨35, _⟩ => ⟨S4x32x128x8x128, .f32⟩
  | .hbm, ⟨36, _⟩ => ⟨S4x32x128x8x128, .f32⟩
  | .hbm, ⟨37, _⟩ => ⟨S4x4096x1024, .f32⟩
  | .hbm, ⟨38, _⟩ => ⟨S4x4096x1024, .f32⟩
  | .hbm, ⟨39, _⟩ => ⟨S16384x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S4x1x1024, .f32⟩
  | .hbm, ⟨48, _⟩ => ⟨S4x1024, .f32⟩
  | .hbm, ⟨49, _⟩ => ⟨S4x1x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Ffn.lean ====
abbrev S16384x1024 : Shape := ⟨2, ![16384, 1024]⟩
abbrev S4x6x1024 : Shape := ⟨3, ![4, 6, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 11
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S16384x1024 : Shape := ⟨2, ![16384, 1024]⟩
abbrev S4x6x1024 : Shape := ⟨3, ![4, 6, 1024]⟩
abbrev S1x1024 : Shape := ⟨2, ![1, 1024]⟩
abbrev S1024x2816 : Shape := ⟨2, ![1024, 2816]⟩
abbrev S2816x1024 : Shape := ⟨2, ![2816, 1024]⟩
abbrev S4x4096x1024 : Shape := ⟨3, ![4, 4096, 1024]⟩
abbrev S4x1x1024 : Shape := ⟨3, ![4, 1, 1024]⟩
abbrev S4x1024 : Shape := ⟨2, ![4, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S4x4096x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x1024, .f32⟩
  | .hbm, ⟨12, _⟩ => ⟨S4x1x1024, .f32⟩
  | .hbm, ⟨13, _⟩ => ⟨S4x1024, .f32⟩
  | .hbm, ⟨14, _⟩ => ⟨S1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1024, .f32⟩
  | .hbm, ⟨27, _⟩ => ⟨S4x4096x1024, .f32⟩
  | .hbm, ⟨28, _⟩ => ⟨S1x1x1024, .f32⟩
  | .hbm, ⟨29, _⟩ => ⟨S4x4096x1024, .f32⟩
  | .hbm, ⟨30, _⟩ => ⟨S4x4096x1024, .f32⟩
  | .hbm, ⟨31, _⟩ => ⟨S4x1x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x4096x1024, .f32⟩
  | .hbm, ⟨36, _⟩ => ⟨S4x4096x1024, .f32⟩
  | .hbm, ⟨37, _⟩ => ⟨S4x1x1024, .f32⟩
  | .hbm, ⟨38, _⟩ => ⟨S4x4096x1024, .f32⟩
  | .hbm, ⟨39, _⟩ => ⟨S4x4096x1024, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S_, .f32⟩
  | .hbm, ⟨44, _⟩ => ⟨S4x4096x2816, .f32⟩
  | .hbm, ⟨45, _⟩ => ⟨S4x4096x2816, .f32⟩
  | .hbm, ⟨46, _⟩ => ⟨S_, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S4x4096x1024, .f32⟩
  | .hbm, ⟨53, _⟩ => ⟨S4x1x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S1024, .f32⟩
  | .hbm, ⟨58, _⟩ => ⟨S4x4096x1024, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x4096x1, .f32⟩
  | .hbm, ⟨69, _⟩ => ⟨S4x4096x1024, .f32⟩
  | .hbm, ⟨70, _⟩ => ⟨S4x4096x1024, .f32⟩
  | .hbm, ⟨71, _⟩ => ⟨S1x1x1024, .f32⟩
  | .hbm, ⟨72, _⟩ => ⟨S4x4096x1024, .f32⟩
  | .hbm, ⟨73, _⟩ => ⟨S4x4096x1024, .f32⟩
  | .hbm, ⟨74, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Proof.AttnIdealLoop.lean ====
/- The attention kernel's loop over the sixteen query blocks: what one trip stores, the list of the
   stores made before a trip, and the loop's invariant on that list. The statements hold at any
   floating-point instance. -/
module

public import proofs.«01_k».proof.Proof.Gen.AttnIdeal.Loops
public import proofs.«01_k».proof.Proof.Gen.AttnIdeal.Frame

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (𝒱 : Variants) (c : Dev nD) (bd : Option 𝒱.V) (i : grid0.Coords)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S128x128 .f32) (harg6 : arg6.IsWhole)
  (X2 : BufTy.Contents (Elt F) arg2.view.ty) (X3 : BufTy.Contents (Elt F) arg3.view.ty)
  (X4 : BufTy.Contents (Elt F) arg4.view.ty) (X6 : BufTy.Contents (Elt F) arg6.view.ty)

/-- What one trip touches: queries, keys, values and block means read at their contents, the output
    written at `f`. -/
abbrev Held (f : BufTy.Contents (Elt F) arg5.view.ty) : sProp 𝕄 :=
  iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} f)
    ∗ (arg6.view.loc (c : Thread nD τ) ↦[arg6.view.set]{fullShare} X6))

/-- One trip of the query-block loop: the pieces it stores into the output, found by running it. -/
@[irreducible] def trip (k : Fin k0_t1_loop.trips) :
    { L : List (View.Piece (Elt F) S4096x128 .bf16) //
      ∀ (E : Set ℕ) (f : BufTy.Contents (Elt F) arg5.view.ty),
      Held (F := F) c arg2 arg3 arg4 arg5 arg6 X2 X3 X4 X6 f
      ⊢ wp frame (wpE (defs₀ (F := F)) 𝒱 (c : Thread nD τ) bd) E
          (k0_t1_body (F := F) i arg2 harg2 arg3 harg3 arg4 harg4 arg5 harg5 arg6 harg6 k ())
          (fun _ => Held (F := F) c arg2 arg3 arg4 arg5 arg6 X2 X3 X4 X6 (arg5.view.writes (Elt F) f L)) } := by
  refine ⟨?_, fun E f => ?run⟩
  case run =>
    unfold k0_t1_body
    simp only [k0_part1_eq_skeleton, k0_part2_eq_skeleton]
    iintro ⟨H2, H3, H4, H5, H6⟩
    sl_exec
    sl_step
    sl_close

/-- The pieces stored before trip `k`, the latest first. -/
@[irreducible] def piecesStep (k : ℕ) (prev : List (View.Piece (Elt F) S4096x128 .bf16)) :
    List (View.Piece (Elt F) S4096x128 .bf16) :=
  if h : k < k0_t1_loop.trips then
    (trip (F := F) 𝒱 c bd i arg2 harg2 arg3 harg3 arg4 harg4 arg5 harg5 arg6 harg6 X2 X3 X4 X6 ⟨k, h⟩).1 ++ prev
  else prev

def pieces : ℕ → List (View.Piece (Elt F) S4096x128 .bf16)
  | 0 => []
  | k + 1 => piecesStep (F := F) 𝒱 c bd i arg2 harg2 arg3 harg3 arg4 harg4 arg5 harg5 arg6 harg6 X2 X3 X4 X6 k (pieces k)

theorem pieces_succ (k : Fin k0_t1_loop.trips) :
    pieces (F := F) 𝒱 c bd i arg2 harg2 arg3 harg3 arg4 harg4 arg5 harg5 arg6 harg6 X2 X3 X4 X6 (k.val + 1)
      = (trip (F := F) 𝒱 c bd i arg2 harg2 arg3 harg3 arg4 harg4 arg5 harg5 arg6 harg6 X2 X3 X4 X6 k).1
        ++ pieces (F := F) 𝒱 c bd i arg2 harg2 arg3 harg3 arg4 harg4 arg5 harg5 arg6 harg6 X2 X3 X4 X6 k.val := by
  rw [pieces.eq_2]; unfold piecesStep; exact dif_pos k.isLt

/-- Before trip `k` the output holds its first contents overwritten by the pieces so far. -/
abbrev inv (f₀ : BufTy.Contents (Elt F) arg5.view.ty) (k : ℕ) (_ : Unit) : sProp 𝕄 :=
  Held (F := F) c arg2 arg3 arg4 arg5 arg6 X2 X3 X4 X6
    (arg5.view.writes (Elt F) f₀ (pieces (F := F) 𝒱 c bd i arg2 harg2 arg3 harg3 arg4 harg4 arg5 harg5 arg6 harg6 X2 X3 X4 X6 k))

set_option warn.classDefReducibility false in
/-- The query-block loop by its invariant. -/
@[sl_loop] def loopInv_k0_t1 (E : Set ℕ) (f₀ : BufTy.Contents (Elt F) arg5.view.ty) :
    LoopInvTy_k0_t1 (F := F) Unit ℕ (UR sig nD τ) ℕ 𝒱 c bd E i arg2 harg2 arg3 harg3 arg4 harg4 arg5 harg5 arg6 harg6 where
  inv := inv (F := F) 𝒱 c bd i arg2 harg2 arg3 harg3 arg4 harg4 arg5 harg5 arg6 harg6 X2 X3 X4 X6 f₀
  step k acc := by
    iintro ⟨H2, H3, H4, H5, H6⟩
    iapply (wp_wand_r Idealize.ShloMosaic.frame (wpE (defs₀ (F := F)) 𝒱 (c : Thread nD τ) bd) E)
    isplitl [H2 H3 H4 H5 H6]
    · iapply ((trip (F := F) 𝒱 c bd i arg2 harg2 arg3 harg3 arg4 harg4 arg5 harg5 arg6 harg6 X2 X3 X4 X6 k).2 E _)
      isplitl [H2]; · iexact H2
      isplitl [H3]; · iexact H3
      isplitl [H4]; · iexact H4
      isplitl [H5]; · iexact H5
      iexact H6
    · iintro %yld ⟨H2, H3, H4, H5, H6⟩
      isplitl [H2]; · iexact H2
      isplitl [H3]; · iexact H3
      isplitl [H4]; · iexact H4
      isplitl [H5]
      · rw [pieces_succ, View.writes_append]
        iexact H5
      iexact H6

/-- The query block of a trip, and the block means, as the trip reads them. -/
abbrev qBlk (k : Fin k0_t1_loop.trips) : Vec F S256x128 .bf16 :=
  View.readAt (Elt F) arg2.view (Rect.unit (s := S4096x128) (k0_off1 k) S256x128.size (k0_off1_inb k)).toLoadRect X2
abbrev kBlk (k : Fin k0_t1_loop.trips) : Vec F S256x128 .bf16 :=
  View.readAt (Elt F) arg3.view (Rect.unit (s := S4096x128) (k0_off1 k) S256x128.size (k0_off1_inb k)).toLoadRect X3
abbrev vBlk (k : Fin k0_t1_loop.trips) : Vec F S256x128 .bf16 :=
  View.readAt (Elt F) arg4.view (Rect.unit (s := S4096x128) (k0_off1 k) S256x128.size (k0_off1_inb k)).toLoadRect X4
abbrev means : Vec F S128x128 .f32 :=
  View.readAt (Elt F) arg6.view (Rect.unit (s := S128x128) ![0, 0] S128x128.size inb_S128x128_S128x128_0_0).toLoadRect X6

/-- The additive bias of each key block for the queries of block `k`, from the queries and the means. -/
def biasOf (k : Fin k0_t1_loop.trips) (q : Vec F S256x128 .bf16) (kb : Vec F S128x128 .f32) : FVec F S256x128 .f32 :=
  k0_pay25 (k0_pay3 (F := F)) (k0_pay18 (F := F) 0#32 1#32 k) (k0_pay22 (k0_pay3 (F := F)) 0#32 1#32 k q kb)
    (k0_pay23 (k0_pay3 (F := F)) 0#32 1#32 k q kb) (k0_pay24 (k0_pay3 (F := F)) 0#32 1#32 k q kb)

/-- The carried value after the own block: running maximum, sum and weighted values. -/
def ownOf (q k v : Vec F S256x128 .bf16) : FVec F S256x1 .f32 × FVec F S256x1 .f32 × FVec F S256x128 .f32 :=
  (k0_pay27 k0_pay4 q k, k0_pay29 k0_pay4 q k, k0_pay30 k0_pay4 q k v)

/-- The carried value after the whole past blocks of the first inner loop, -/
abbrev pastOf (k : Fin k0_t1_loop.trips) : FVec F S256x1 .f32 × FVec F S256x1 .f32 × FVec F S256x128 .f32 :=
  st_k0_t2 (F := F) 𝒱 c bd i arg2 harg2 arg3 harg3 arg4 harg4 arg5 harg5 arg6 harg6 k
    (qBlk (F := F) arg2 X2 k) (biasOf k (qBlk (F := F) arg2 X2 k) (means (F := F) arg6 X6)) 0#32 X3 X4
    (ownOf (qBlk (F := F) arg2 X2 k) (kBlk (F := F) arg3 X3 k) (vBlk (F := F) arg4 X4 k)) (k0_t2_loop k).trips

/-- and after the second. -/
abbrev restOf (k : Fin k0_t1_loop.trips) : FVec F S256x1 .f32 × FVec F S256x1 .f32 × FVec F S256x128 .f32 :=
  st_k0_t3 (F := F) 𝒱 c bd i arg2 harg2 arg3 harg3 arg4 harg4 arg5 harg5 arg6 harg6 k
    (qBlk (F := F) arg2 X2 k) (biasOf k (qBlk (F := F) arg2 X2 k) (means (F := F) arg6 X6)) 0#32
    (Scalar.subi (Scf.iv 0#32 1#32 k) 0#32) 1#32 X3 X4
    (pastOf (F := F) 𝒱 c bd i arg2 harg2 arg3 harg3 arg4 harg4 arg5 harg5 arg6 harg6 X2 X3 X4 X6 k) (k0_t3_loop k).trips

/-- What trip `k` stores. -/
def tripVal (k : Fin k0_t1_loop.trips) : Vec F S256x128 .bf16 :=
  k0_pay17 (restOf (F := F) 𝒱 c bd i arg2 harg2 arg3 harg3 arg4 harg4 arg5 harg5 arg6 harg6 X2 X3 X4 X6 k).2.1
    (restOf (F := F) 𝒱 c bd i arg2 harg2 arg3 harg3 arg4 harg4 arg5 harg5 arg6 harg6 X2 X3 X4 X6 k).2.2

/-- A trip stores one piece: its block of rows. -/
theorem trip_eq (k : Fin k0_t1_loop.trips) :
    (trip (F := F) 𝒱 c bd i arg2 harg2 arg3 harg3 arg4 harg4 arg5 harg5 arg6 harg6 X2 X3 X4 X6 k).1
      = [⟨Rect.unit (s := S4096x128) (k0_off1 k) S256x128.size (k0_off1_inb k),
          tripVal (F := F) 𝒱 c bd i arg2 harg2 arg3 harg3 arg4 harg4 arg5 harg5 arg6 harg6 X2 X3 X4 X6 k⟩] := by
  unfold trip; rfl

/-- The first inner loop runs over all blocks before the own one; the second runs over none. -/
theorem past_trips : ∀ k : Fin k0_t1_loop.trips, (k0_t2_loop k).trips = k.val := by decide +kernel
theorem rest_trips : ∀ k : Fin k0_t1_loop.trips, (k0_t3_loop k).trips = 0 := by decide +kernel
theorem query_trips : k0_t1_loop.trips = 16 := by decide +kernel
/-- The rows of query block `k` begin at `256 k`. -/
theorem off1_eq : ∀ k : Fin k0_t1_loop.trips, k0_off1 k = ![256 * k.val, 0] := by decide +kernel
theorem off2_eq : ∀ (k : Fin k0_t1_loop.trips) (b : Fin (k0_t2_loop k).trips), k0_off2 k b = ![256 * b.val, 0] := by
  decide +kernel

/-- Every row lies in some stored block. -/
theorem pieces_cover (n : ℕ) (hn : n ≤ k0_t1_loop.trips) (y : S4096x128.Idx) (hy : (y 0).val < 256 * n) :
    ∃ pc ∈ pieces (F := F) 𝒱 c bd i arg2 harg2 arg3 harg3 arg4 harg4 arg5 harg5 arg6 harg6 X2 X3 X4 X6 n, y ∈ pc.1.set := by
  induction n with
  | zero => omega
  | succ n ih =>
    rw [pieces_succ 𝒱 c bd i arg2 harg2 arg3 harg3 arg4 harg4 arg5 harg5 arg6 harg6 X2 X3 X4 X6 ⟨n, hn⟩, trip_eq]
    by_cases h : (y 0).val < 256 * n
    · obtain ⟨pc, hpc, hm⟩ := ih (Nat.le_of_lt hn) h
      exact ⟨pc, List.mem_append_right _ hpc, hm⟩
    · refine ⟨_, List.mem_append_left _ (List.mem_singleton.2 rfl), ?_⟩
      rw [Rect.mem_set_unit, off1_eq]
      intro a
      have h1 : (y 1 : Nat) < 128 := (y 1).isLt
      match a with
      | ⟨0, _⟩ => show 256 * n ≤ (y 0).val ∧ (y 0).val < 256 * n + 256; omega
      | ⟨1, _⟩ => show 0 ≤ (y 1).val ∧ (y 1).val < 0 + 128; omega

end Cert.AttnIdeal.Hand

end
-- ==== Proof.AttnIdealFrame.lean ====
/- The attention kernel's whole body at a grid point, the launch over it, and the frame: the program
   ends, leaves its argument as it found it and every counter at zero; its result holds, block by
   block, what the body leaves. The statements hold at any floating-point instance. -/
module

public import proofs.«01_k».proof.Proof.AttnIdealLoop
public import Idealize.ShloMosaic.Lib.Claim

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Body

variable (c : Dev nD) (i : grid0.Coords)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S128x128 .f32) (harg6 : arg6.IsWhole)
  (x0 x1 x2 : Vec F S4096x128 .bf16)

set_option maxHeartbeats 1600000 in
/-- The body on any staging buffers: the pieces it stores into the scratch of block means are found by
    the run; the output is overwritten by the sixteen trips' pieces. -/
def bodyRun :
    { LM : List (View.Piece (Elt F) S128x128 .f32) //
      ∀ (E : Set ℕ) (K : PUnit → sProp 𝕄),
      iprop(owns (c : Thread nD τ) arg2 fullShare x0 ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ (∃ f, arg5.view.loc (c : Thread nD τ) ↦[arg5.view.set]{fullShare}
                arg5.view.writes (Elt F) f (pieces (F := F) Variants.none c none i arg2 harg2 arg3 harg3 arg4 harg4 arg5 harg5 arg6 harg6
                  (harg2.unread x0) (harg3.unread x1) (harg4.unread x2) (arg6.view.writes (Elt F) arg6.view.junk LM) k0_t1_loop.trips))
            ∗ (arg6.view.loc (c : Thread nD τ) ↦[arg6.view.set]{fullShare} arg6.view.writes (Elt F) arg6.view.junk LM)) -∗ K ⟨⟩))
      ⊢ wp frame (wpE (defs₀ (F := F)) Variants.none c none) E
          (cc0_moba_attn i arg2 harg2 arg3 harg3 arg4 harg4 arg5 harg5 arg6 harg6) K } := by
  refine ⟨?_, fun E K => ?run⟩
  case run =>
    simp only [cc0_moba_attn_eq_skeleton]; unfold cc0_moba_attn_skel
    simp only [k0_part3_eq_skeleton, k0_part4_eq_skeleton, k0_part5_eq_skeleton, k0_part6_eq_skeleton]
    unfold owns
    iintro ⟨⟨%f0, %hf0, H2⟩, ⟨%f1, %hf1, H3⟩, ⟨%f2, %hf2, H4⟩, ⟨%d5, %f5, -, H5⟩, ⟨%d6, %f6, -, H6⟩, Hk⟩
    obtain rfl := harg2.eq_unread hf0; obtain rfl := harg3.eq_unread hf1; obtain rfl := harg4.eq_unread hf2
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    rotate_left
    · iexact H6
    · iexists f5; iexact H5

/-- The block means the body leaves in the scratch, as pieces over anything. -/
abbrev meanPieces : List (View.Piece (Elt F) S128x128 .f32) :=
  (bodyRun (F := F) c i arg2 harg2 arg3 harg3 arg4 harg4 arg5 harg5 arg6 harg6 x0 x1 x2).1

/-- The pieces the body stores into the output. -/
abbrev outPieces : List (View.Piece (Elt F) S4096x128 .bf16) :=
  pieces (F := F) Variants.none c none i arg2 harg2 arg3 harg3 arg4 harg4 arg5 harg5 arg6 harg6
    (harg2.unread x0) (harg3.unread x1) (harg4.unread x2)
    (arg6.view.writes (Elt F) arg6.view.junk (meanPieces (F := F) c i arg2 harg2 arg3 harg3 arg4 harg4 arg5 harg5 arg6 harg6 x0 x1 x2))
    k0_t1_loop.trips

theorem outPieces_cover (y : S4096x128.Idx) :
    ∃ pc ∈ outPieces (F := F) c i arg2 harg2 arg3 harg3 arg4 harg4 arg5 harg5 arg6 harg6 x0 x1 x2, y ∈ pc.1.set :=
  pieces_cover (F := F) Variants.none c none i arg2 harg2 arg3 harg3 arg4 harg4 arg5 harg5 arg6 harg6 _ _ _ _ _ le_rfl y
    (by rw [query_trips]; exact (y 0).isLt)

/-- What the body leaves in the output's staging buffer. -/
def bodyOut : Vec F S4096x128 .bf16 :=
  arg5.view.read (Elt F) (arg5.view.writes (Elt F) arg5.view.junk
    (outPieces (F := F) c i arg2 harg2 arg3 harg3 arg4 harg4 arg5 harg5 arg6 harg6 x0 x1 x2))

end Body

variable (m : (ℓ : Loc nD τ sig) → Buf (Elt F) ℓ) (ρ : Dev nD → PrngReg)

/-- The staging buffers at a point, and the scratch. -/
abbrev ms0 (t : Fin cfg0.N) : Memref sig .tc .vmem S4096x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x128 .bf16 := win0_3.stage (cfg0.slots t 3)
abbrev hs3 (t : Fin cfg0.N) : (ms3 t).IsWhole := hstage0_3 ((cfg0.slots t 3).cast nbuf0_3)
abbrev scM : Memref sig .tc .vmem S128x128 .f32 := Memref.whole cc0_scratch0

/-- The loop invariant of the launch: the scratch at some contents, the generator at some state. -/
theorem phi_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the output's staging buffer holds after the body at point `t`. -/
def outAt (c : Dev nD) (t : Fin cfg0.N) : Vec F S4096x128 .bf16 :=
  bodyOut c (grid0.coords t) (ms0 t) (hs0 t) (ms1 t) (hs1 t) (ms2 t) (hs2 t) (ms3 t) (hs3 t) scM (Memref.isWhole_whole _)
    (iblk m c 0 t) (iblk m c 1 t) (iblk m c 2 t)

/-- The launch's data: the arrays as found; inputs left at their blocks, the output at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is handed at a point, and what it hands back. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, phi_eq]
  unfold outAt bodyOut
  iintro ⟨⟨HS, Hg⟩, Ho, ⟨%d0, H0⟩, ⟨%d1, H1⟩, ⟨%d2, H2⟩, ⟨%d3, H3⟩⟩
  iapply ((bodyRun c (grid0.coords t) (ms0 t) (hs0 t) (ms1 t) (hs1 t) (ms2 t) (hs2 t) (ms3 t) (hs3 t) scM (Memref.isWhole_whole _)
    (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  unfold owns; iexists _; isplitr
  swap; · iexact H3
  ipureintro
  exact View.read_writes_of_cover _ _ _ _ _ (outPieces_cover c _ _ _ _ _ _ _ _ _ _ _ _ _ _)

theorem row_eq (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The launch: every execution ends, with every array as the data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The argument ends as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_quiescent m ρ))

end Cert.AttnIdeal.Hand

end
-- ==== Proof.Consts.lean ====
/- The numbers the floating-point patterns of these programs denote in exact arithmetic. -/
module

public import Idealize.ShloMosaic.PureOps.Ideal
public import Idealize.ShloMosaic.Lib.WordCmp
public import Idealize.ShloMosaic.Lib.ValueIdxCore

@[expose] public section

noncomputable section

namespace Patterns

open Idealize.ShloMosaic

theorem one_twenty_eight : Ideal.ofBits .f32 0x43000000#32 = ((128 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem two_fifty_six : Ideal.ofBits .f32 0x43800000#32 = ((256 : ℝ) : EReal) := by
  simp [Ideal.ofBits, Ideal.ieee, -EReal.coe_mul]; norm_num

theorem one_over_256 : Ideal.ofBits .f32 0x3B800000#32 = ((1 / 256 : ℝ) : EReal) := by
  simp [Ideal.ofBits, Ideal.ieee, -EReal.coe_mul]; norm_num

theorem minus_infinity : Ideal.ofBits .f32 0xFF800000#32 = (⊥ : EReal) := by
  simp [Ideal.ofBits, Ideal.ieee, -EReal.coe_mul]

theorem plus_infinity : Ideal.ofBits .f32 0x7F800000#32 = (⊤ : EReal) := by
  simp [Ideal.ofBits, Ideal.ieee, -EReal.coe_mul]

/-- The reciprocal root of 128, as the reference computes it. -/
theorem root_eq : Ideal.div (Ideal.ofBits .f32 0x3F800000#32) (Ideal.sqrt (Ideal.ofBits .f32 0x43000000#32))
    = (((Real.sqrt 128)⁻¹ : ℝ) : EReal) := by
  rw [one, one_twenty_eight, Ideal.sqrt_coe, if_neg (by norm_num),
    Ideal.div_coe (Real.sqrt_pos.mpr (by norm_num)).ne', ← EReal.coe_mul]
  simp

/-- Choosing on a comparison of small words is choosing on the comparison of the numbers. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb, WordCmp.select_decide]

theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb, WordCmp.select_decide]

/-- An extended real that is a real number. -/
abbrev IsReal (x : EReal) : Prop := ∃ y : ℝ, x = (y : EReal)

theorem sub_self_real {x : EReal} (h : IsReal x) : x - x = 0 := by
  obtain ⟨y, rfl⟩ := h
  exact_mod_cast congrArg ((↑) : ℝ → EReal) (sub_self y)

/-- A magnitude below infinity, as a program compares it, is a real number's. -/
theorem isReal_of_lt {φ : FTy} {x : Ideal φ}
    (h : FloatOps.cmpf (F := Ideal) (φ := .f32) .olt (max x (-x) : EReal) (Ideal.ofBits .f32 0x7F800000#32) = 1#1) : IsReal x := by
  rw [plus_infinity] at h
  induction x using EReal.rec with
  | bot => exact absurd h (by simp [FloatOps.cmpf, Ideal.cmp])
  | coe y => exact ⟨y, rfl⟩
  | top => exact absurd h (by simp [FloatOps.cmpf, Ideal.cmp])

end Patterns
-- ==== Proof.AttnSpec.lean ====
/- Attention over the chosen blocks of the past and the own block, over the real numbers: which blocks
   a query chooses, what its row of the result is, and the facts about choosing, weights and sums that
   both programs' rows are read with. -/
module

public import proofs.«01_k».proof.Proof.Consts
public import Idealize.ShloMosaic.Lib.SortPrefix
public import Idealize.ShloMosaic.PureOps.Ideal.Laws

@[expose] public section

set_option maxRecDepth 16384

noncomputable section

open Idealize.ShloMosaic

namespace AttnRows

/-- Block `a` goes before block `b`: a higher gate, or the same gate and a lower number. -/
def Beats (g : ℕ → ℝ) (a b : ℕ) : Prop := g b < g a ∨ (g a = g b ∧ a < b)

/-- Block `b` is one of the three best of the `n` blocks of the past. -/
def Chosen (g : ℕ → ℝ) (n b : ℕ) : Prop :=
  b < n ∧ ∀ a₁ a₂ a₃, a₁ < n → a₂ < n → a₃ < n → a₁ ≠ a₂ → a₁ ≠ a₃ → a₂ ≠ a₃ →
    ¬ (Beats g a₁ b ∧ Beats g a₂ b ∧ Beats g a₃ b)

/-- Blocks all of whose betters are among two are chosen. -/
theorem chosen_of_two {g : ℕ → ℝ} {n b : ℕ} (hb : b < n) (x y : ℕ)
    (h : ∀ a, a < n → Beats g a b → a = x ∨ a = y) : Chosen g n b := by
  refine ⟨hb, fun a₁ a₂ a₃ h₁ h₂ h₃ h12 h13 h23 ⟨b₁, b₂, b₃⟩ => ?_⟩
  have := h a₁ h₁ b₁
  have := h a₂ h₂ b₂
  have := h a₃ h₃ b₃
  omega

/-- A gate as a program holds it: below everything outside the past. -/
def lifted (g : ℕ → ℝ) (n : ℕ) (l : ℕ) : EReal := if l < n then (g l : EReal) else ⊥

theorem lifted_lt {g : ℕ → ℝ} {n l : ℕ} (h : l < n) : lifted g n l = (g l : EReal) := if_pos h

theorem lifted_ge {g : ℕ → ℝ} {n l : ℕ} (h : ¬ l < n) : lifted g n l = ⊥ := if_neg h

/-- `p` is the first greatest place of `f` among the first `N`. -/
def First (N : ℕ) (f : ℕ → EReal) (p : ℕ) : Prop := p < N ∧ ∀ l, l < N → f l < f p ∨ (f l = f p ∧ p ≤ l)

/-- `f` with place `p` taken out. -/
def without (f : ℕ → EReal) (p : ℕ) : ℕ → EReal := fun l => if l = p then ⊥ else f l

/-- Taking the first greatest place three times, each time taking it out, finds the chosen blocks. -/
theorem picks_chosen {N n : ℕ} {g : ℕ → ℝ} (hn : n ≤ N) {p q r : ℕ} (hp : First N (lifted g n) p)
    (hq : First N (without (lifted g n) p) q) (hr : First N (without (without (lifted g n) p) q) r) {b : ℕ} (hb : b < n) :
    (b = p ∨ b = q ∨ b = r) ↔ Chosen g n b := by
  have key : ∀ {a c : ℕ}, a < n → c < n → (lifted g n a < lifted g n c ∨ (lifted g n a = lifted g n c ∧ c ≤ a)) → a ≠ c → Beats g c a := by
    intro a c ha hc h hac
    rw [lifted_lt ha, lifted_lt hc] at h
    rcases h with h | ⟨h, h'⟩
    · exact Or.inl (EReal.coe_lt_coe_iff.1 h)
    · exact Or.inr ⟨(EReal.coe_injective h).symm, by omega⟩
  have asym : ∀ {a c : ℕ}, Beats g a c → ¬ Beats g c a := by
    intro a c h h'
    rcases h with h | ⟨h, k⟩ <;> rcases h' with h' | ⟨h', k'⟩
    · exact lt_asymm h h'
    · exact absurd h (by rw [h']; exact lt_irrefl _)
    · exact absurd h' (by rw [h]; exact lt_irrefl _)
    · omega
  have inpast : ∀ {c : ℕ}, (lifted g n b < lifted g n c ∨ (lifted g n b = lifted g n c ∧ c ≤ b)) → c < n := by
    intro c h
    by_contra hc
    rw [lifted_lt hb, lifted_ge hc] at h
    rcases h with h | ⟨h, _⟩
    · exact absurd h not_lt_bot
    · exact absurd h (EReal.coe_ne_bot _)
  constructor
  · intro h
    refine chosen_of_two hb p q fun a ha hab => ?_
    by_contra hne
    push Not at hne
    have hab' : a ≠ b := fun e => by subst e; exact asym hab hab
    rcases h with rfl | rfl | rfl
    · exact asym hab (key ha hb (hp.2 a (by omega)) hab')
    · by_cases e : b = p
      · subst e; exact asym hab (key ha hb (hp.2 a (by omega)) hab')
      · have := hq.2 a (by omega)
        simp only [without, if_neg hne.1, if_neg e] at this
        exact asym hab (key ha hb this hab')
    · by_cases e : b = p
      · subst e; exact asym hab (key ha hb (hp.2 a (by omega)) hab')
      · by_cases e' : b = q
        · subst e'
          have := hq.2 a (by omega)
          simp only [without, if_neg hne.1, if_neg e] at this
          exact asym hab (key ha hb this hab')
        · have := hr.2 a (by omega)
          simp only [without, if_neg hne.1, if_neg hne.2, if_neg e, if_neg e'] at this
          exact asym hab (key ha hb this hab')
  · intro h
    by_contra hne
    push Not at hne
    obtain ⟨e1, e2, e3⟩ := hne
    have c1 := hp.2 b (by omega)
    have n1 := inpast c1
    have c2 := hq.2 b (by omega)
    have q1 : q ≠ p := fun e => by
      simp only [without, if_neg e1, if_pos e] at c2
      rw [lifted_lt hb] at c2
      rcases c2 with h | ⟨h, _⟩
      · exact absurd h not_lt_bot
      · exact absurd h (EReal.coe_ne_bot _)
    simp only [without, if_neg e1, if_neg q1] at c2
    have n2 := inpast c2
    have c3 := hr.2 b (by omega)
    have r2 : r ≠ q := fun e => by
      simp only [without, if_neg e1, if_neg e2, if_pos e] at c3
      rw [lifted_lt hb] at c3
      rcases c3 with h | ⟨h, _⟩
      · exact absurd h not_lt_bot
      · exact absurd h (EReal.coe_ne_bot _)
    have r1 : r ≠ p := fun e => by
      simp only [without, if_neg e1, if_neg e2, if_neg r2, if_pos e] at c3
      rw [lifted_lt hb] at c3
      rcases c3 with h | ⟨h, _⟩
      · exact absurd h not_lt_bot
      · exact absurd h (EReal.coe_ne_bot _)
    simp only [without, if_neg e1, if_neg e2, if_neg r2, if_neg r1] at c3
    have n3 := inpast c3
    exact h.2 p q r n1 n2 n3 (fun e => q1 e.symm) (fun e => r1 e.symm) (fun e => r2 e.symm)
      ⟨key hb n1 c1 e1, key hb n2 c2 e2, key hb n3 c3 e3⟩

/-! ### The places of a sort -/

/-- A stable sort of an increasing list never compares an element with an earlier one as the earlier's left side, so two
    relations that agree on later against earlier sort it alike. -/
theorem stableSort_congr_increasing {n : ℕ} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    refine insertBefore_congr R R' a _ fun b hb => h a b (hl.1 b ((perm_stableSort R' l).mem_iff.mp hb))

/-- The sort's comparison of the places of a gate, and the same with equal gates decided by the place. -/
def above (f : ℕ → EReal) (N : ℕ) : Fin N → Fin N → Bool := fun a b => decide (f b.val < f a.val)

def aboveThen (f : ℕ → EReal) (N : ℕ) : Fin N → Fin N → Bool := fun a b =>
  decide (f b.val < f a.val) || (decide (f a.val = f b.val) && decide (a < b))

theorem sortedFrom_above (f : ℕ → EReal) (N : ℕ) : sortedFrom (above f N) = sortedFrom (aboveThen f N) := by
  have e : sortPositions N (above f N) = sortPositions N (aboveThen f N) :=
    stableSort_congr_increasing _ _ _ (List.pairwise_lt_finRange N) fun a b hab => by
      simp [above, aboveThen, not_lt.2 hab.le]
  funext k
  unfold sortedFrom
  rw [List.get_of_eq e]
  rfl

theorem strict_aboveThen (f : ℕ → EReal) (N : ℕ) : StrictTotalBefore (aboveThen f N) := by
  classical
  exact StrictTotalBefore.of_key_then_position (fun x y : EReal => decide (y < x)) (fun k : Fin N => f k.val)
    (fun a => by simp) (fun a b c h h' => by simp only [decide_eq_true_eq] at *; exact lt_trans h' h)
    (fun a b => by simp only [decide_eq_true_eq]; rcases lt_trichotomy a b with h | h | h <;> simp [h])

/-- Of the places in the order of a stable sort of the gates, a block of the past is among the first three if and only
    if it is chosen. -/
theorem sorted_chosen {N n : ℕ} {g : ℕ → ℝ} (hn : n ≤ N) (hN : 3 ≤ N) (i : Fin N)
    (hb : (sortedFrom (above (lifted g n) N) i).val < n) :
    Chosen g n (sortedFrom (above (lifted g n) N) i).val ↔ i.val < 3 := by
  rw [sortedFrom_above] at hb ⊢
  set π := sortedFrom (aboveThen (lifted g n) N) with hπ
  have hB := strict_aboveThen (lifted g n) N
  have ord : ∀ a b : Fin N, a < b → aboveThen (lifted g n) N (π a) (π b) = true := by
    intro a b hab
    have h := sortedFrom_noInversion _ _ (fun a b h => hB.asymm a b h) (fun _ _ h => h) hB.negTrans a b hab
    rcases hB.total (π a) (π b) (fun e => absurd (sortedFrom_injective _ e) hab.ne) with h' | h'
    · exact h'
    · rw [← hπ] at h; rw [h'] at h; exact absurd h (by decide)
  have beats_iff : ∀ {a b : Fin N}, a.val < n → b.val < n → (aboveThen (lifted g n) N a b = true ↔ Beats g a.val b.val) := by
    intro a b ha hb
    simp only [aboveThen, Bool.or_eq_true, Bool.and_eq_true, decide_eq_true_eq, lifted_lt ha, lifted_lt hb, EReal.coe_lt_coe_iff,
      EReal.coe_eq_coe_iff, Beats, Fin.lt_def]
  constructor
  · intro h
    by_contra hi
    push Not at hi
    have hin : ∀ a : Fin N, a < i → (π a).val < n := by
      intro a ha
      have h' := ord a i ha
      by_contra hc
      simp only [aboveThen, Bool.or_eq_true, Bool.and_eq_true, decide_eq_true_eq, lifted_ge hc, lifted_lt hb] at h'
      rcases h' with h' | ⟨h', _⟩
      · exact absurd h' not_lt_bot
      · exact absurd h'.symm (EReal.coe_ne_bot _)
    have pos : ∀ (z : ℕ) (hz : z < 3), (⟨z, by omega⟩ : Fin N) < i := fun z hz => by
      rw [Fin.lt_def]; show z < i.val; omega
    have ne : ∀ (y z : ℕ) (hy : y < 3) (hz : z < 3), y ≠ z → (π ⟨y, by omega⟩).val ≠ (π ⟨z, by omega⟩).val := fun y z hy hz hyz e =>
      hyz (congrArg Fin.val (sortedFrom_injective _ (Fin.ext e)))
    have bt : ∀ (z : ℕ) (hz : z < 3), Beats g (π ⟨z, by omega⟩).val (π i).val := fun z hz =>
      (beats_iff (hin _ (pos z hz)) hb).1 (ord _ _ (pos z hz))
    exact h.2 _ _ _ (hin _ (pos 0 (by omega))) (hin _ (pos 1 (by omega))) (hin _ (pos 2 (by omega))) (ne 0 1 (by omega) (by omega) (by omega))
      (ne 0 2 (by omega) (by omega) (by omega)) (ne 1 2 (by omega) (by omega) (by omega)) ⟨bt 0 (by omega), bt 1 (by omega), bt 2 (by omega)⟩
  · intro hi
    refine chosen_of_two hb (π ⟨0, by omega⟩).val (π ⟨1, by omega⟩).val fun a ha hab => ?_
    obtain ⟨j, hj⟩ := sortedFrom_surjective (aboveThen (lifted g n) N) ⟨a, by omega⟩
    rw [← hπ] at hj
    have h1 : aboveThen (lifted g n) N (π j) (π i) = true := by
      rw [beats_iff (by rw [hj]; exact ha) hb, hj]; exact hab
    have hji : j < i := by
      by_contra hc
      rcases lt_or_eq_of_le (not_lt.1 hc) with hlt | heq
      · have := hB.asymm _ _ (ord i j hlt); rw [h1] at this; exact absurd this (by decide)
      · subst heq; rw [hB.irrefl] at h1; exact absurd h1 (by decide)
    have hj2 : j.val = 0 ∨ j.val = 1 := by rw [Fin.lt_def] at hji; omega
    rcases hj2 with hj2 | hj2
    · left; rw [show (⟨0, by omega⟩ : Fin N) = j from Fin.ext hj2.symm, hj]
    · right; rw [show (⟨1, by omega⟩ : Fin N) = j from Fin.ext hj2.symm, hj]

end AttnRows
-- ==== Proof.AttnWeights.lean ====
/- Weights of scores and the running softmax they make, in exact arithmetic: a score is a real number or minus
   infinity, its weight its exponential; carrying a maximum, a sum and weighted values relative to that maximum
   computes the ratio of the weighted values to the sum of the weights, whatever the maximum is. -/
module

public import proofs.«01_k».proof.Proof.AttnSpec

@[expose] public section

set_option maxRecDepth 16384

noncomputable section

open Idealize.ShloMosaic

namespace AttnRows

open Patterns (IsReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A score's weight: its exponential, nothing at minus infinity. -/
def weight (x : EReal) : ℝ := (Ideal.exp x).toReal

theorem weight_coe (r : ℝ) : weight (r : EReal) = Real.exp r := by simp [weight, Ideal.exp_coe]

theorem weight_bot : weight ⊥ = 0 := by simp [weight]

theorem weight_nonneg {x : EReal} (h : x ≠ ⊤) : 0 ≤ weight x := by
  induction x using EReal.rec with
  | bot => rw [weight_bot]
  | coe y => rw [weight_coe]; exact (Real.exp_pos _).le
  | top => exact absurd rfl h

/-- The exponential of a score less a real number. -/
theorem exp_sub {x : EReal} (h : x ≠ ⊤) (μ : ℝ) : Ideal.exp (x - (μ : EReal)) = ((Real.exp (-μ) * weight x : ℝ) : EReal) := by
  induction x using EReal.rec with
  | bot => rw [weight_bot, mul_zero, EReal.bot_sub]; simp
  | coe y => rw [weight_coe, ← EReal.coe_sub, Ideal.exp_coe, ← Real.exp_add]; congr 2; ring
  | top => exact absurd rfl h

theorem isReal_iff {x : EReal} : IsReal x ↔ x ≠ ⊥ ∧ x ≠ ⊤ := by
  constructor
  · rintro ⟨y, rfl⟩; exact ⟨EReal.coe_ne_bot _, EReal.coe_ne_top _⟩
  · rintro ⟨h, h'⟩; exact ⟨x.toReal, (EReal.coe_toReal h' h).symm⟩

theorem fold_max_ne_top {ι : Type} (s : Finset ι) (f : ι → EReal) (h : ∀ i ∈ s, f i ≠ ⊤) : s.fold max ⊥ f ≠ ⊤ := by
  rw [← lt_top_iff_ne_top, Finset.fold_max_lt]
  exact ⟨bot_lt_top, fun i hi => lt_top_iff_ne_top.2 (h i hi)⟩

/-- The greatest of some scores, one of them real, is real. -/
theorem fold_max_real {ι : Type} (s : Finset ι) (f : ι → EReal) (h : ∀ i ∈ s, f i ≠ ⊤) (i : ι) (hi : i ∈ s) (hr : f i ≠ ⊥) :
    IsReal (s.fold max ⊥ f) := by
  refine isReal_iff.2 ⟨fun e => hr ?_, fold_max_ne_top s f h⟩
  have := (Finset.le_fold_max (s := s) (b := ⊥) (f := f) (f i)).2 (Or.inr ⟨i, hi, le_rfl⟩)
  rw [e] at this
  exact le_bot_iff.1 this

theorem max_real {x y : EReal} (hx : IsReal x) (hy : y ≠ ⊤) : IsReal (max x y) := by
  rw [isReal_iff] at *
  exact ⟨fun e => hx.1 (le_bot_iff.1 (e ▸ le_max_left x y)), fun e => by
    rcases max_choice x y with h | h <;> rw [h] at e
    · exact hx.2 e
    · exact hy e⟩

/-- What a running softmax holds: a maximum, a sum and weighted values, the last two relative to the maximum. -/
def Carries {D : ℕ} (M L : EReal) (A : Fin D → EReal) (W : ℝ) (S : Fin D → ℝ) : Prop :=
  ∃ μ : ℝ, M = (μ : EReal) ∧ L = ((Real.exp (-μ) * W : ℝ) : EReal) ∧ ∀ d, A d = ((Real.exp (-μ) * S d : ℝ) : EReal)

variable {ι : Type} [Fintype ι] {D : ℕ}

theorem sum_exp (x : ι → EReal) (h : ∀ i, x i ≠ ⊤) (μ : ℝ) :
    ∑ i, Ideal.exp (x i - (μ : EReal)) = ((Real.exp (-μ) * ∑ i, weight (x i) : ℝ) : EReal) := by
  rw [Finset.mul_sum, coe_sum]
  exact Finset.sum_congr rfl fun i _ => exp_sub (h i) μ

theorem sum_exp_mul (x : ι → EReal) (h : ∀ i, x i ≠ ⊤) (v : ι → ℝ) (μ : ℝ) :
    ∑ i, Ideal.exp (x i - (μ : EReal)) * (v i : EReal) = ((Real.exp (-μ) * ∑ i, weight (x i) * v i : ℝ) : EReal) := by
  rw [Finset.mul_sum, coe_sum]
  refine Finset.sum_congr rfl fun i _ => ?_
  rw [exp_sub (h i), ← EReal.coe_mul, mul_assoc]

/-- A running softmax begins with one block of scores. -/
theorem carries_start (x : ι → EReal) (h : ∀ i, x i ≠ ⊤) (i : ι) (hr : x i ≠ ⊥) (v : ι → Fin D → ℝ) :
    Carries (Finset.univ.fold max ⊥ x) (∑ i, Ideal.exp (x i - Finset.univ.fold max ⊥ x))
      (fun d => ∑ i, Ideal.exp (x i - Finset.univ.fold max ⊥ x) * (v i d : EReal))
      (∑ i, weight (x i)) (fun d => ∑ i, weight (x i) * v i d) := by
  obtain ⟨μ, e⟩ := fold_max_real Finset.univ x (fun i _ => h i) i (Finset.mem_univ _) hr
  rw [e]
  exact ⟨μ, rfl, sum_exp x h μ, fun d => sum_exp_mul x h (fun i => v i d) μ⟩

/-- … and takes in a further one. -/
theorem carries_step {M L : EReal} {A : Fin D → EReal} {W : ℝ} {S : Fin D → ℝ} (hc : Carries M L A W S)
    (x : ι → EReal) (h : ∀ i, x i ≠ ⊤) (v : ι → Fin D → ℝ) :
    Carries (max M (Finset.univ.fold max ⊥ x))
      (Ideal.exp (M - max M (Finset.univ.fold max ⊥ x)) * L + ∑ i, Ideal.exp (x i - max M (Finset.univ.fold max ⊥ x)))
      (fun d => Ideal.exp (M - max M (Finset.univ.fold max ⊥ x)) * A d
        + ∑ i, Ideal.exp (x i - max M (Finset.univ.fold max ⊥ x)) * (v i d : EReal))
      (W + ∑ i, weight (x i)) (fun d => S d + ∑ i, weight (x i) * v i d) := by
  obtain ⟨μ, rfl, rfl, hA⟩ := hc
  obtain ⟨ν, e⟩ := max_real (x := (μ : EReal)) ⟨μ, rfl⟩ (fold_max_ne_top Finset.univ x fun i _ => h i)
  rw [e]
  have key : ∀ z y : ℝ, Ideal.exp ((μ : EReal) - (ν : EReal)) * ((Real.exp (-μ) * z : ℝ) : EReal) + ((Real.exp (-ν) * y : ℝ) : EReal)
      = ((Real.exp (-ν) * (z + y) : ℝ) : EReal) := fun z y => by
    rw [← EReal.coe_sub, Ideal.exp_coe, ← EReal.coe_mul, ← EReal.coe_add]
    congr 1
    rw [← mul_assoc, ← Real.exp_add, show μ - ν + -μ = -ν by ring]
    ring
  refine ⟨ν, rfl, ?_, fun d => ?_⟩
  · rw [sum_exp x h ν]; exact key _ _
  · beta_reduce
    rw [hA d, sum_exp_mul x h (fun i => v i d) ν]; exact key _ _

/-- What it ends with is the ratio of the weighted values to the sum of the weights. -/
theorem carries_end {M L : EReal} {A : Fin D → EReal} {W : ℝ} {S : Fin D → ℝ} (hc : Carries M L A W S) (hW : W ≠ 0) (d : Fin D) :
    Ideal.div (A d) L = ((S d / W : ℝ) : EReal) := by
  obtain ⟨μ, rfl, rfl, hA⟩ := hc
  rw [hA d, Ideal.div_coe (mul_ne_zero (Real.exp_pos _).ne' hW), ← EReal.coe_mul]
  congr 1
  field_simp

/-- The plain softmax gives the same ratio. -/
theorem softmax_sum (x : ι → EReal) (h : ∀ i, x i ≠ ⊤) (M : EReal) (hM : IsReal M) (v : ι → ℝ) (hW : ∑ i, weight (x i) ≠ 0) :
    ∑ i, Ideal.div (Ideal.exp (x i - M)) (∑ i, Ideal.exp (x i - M)) * (v i : EReal)
      = (((∑ i, weight (x i) * v i) / ∑ i, weight (x i) : ℝ) : EReal) := by
  obtain ⟨μ, rfl⟩ := hM
  rw [sum_exp x h, Finset.sum_div, coe_sum]
  refine Finset.sum_congr rfl fun i _ => ?_
  rw [exp_sub (h i), Ideal.div_coe (mul_ne_zero (Real.exp_pos _).ne' hW), ← EReal.coe_mul, ← EReal.coe_mul]
  congr 1
  field_simp

/-- The least lane whose entry is greatest, as the kernel finds it: the minimum over the lanes of the lane's number where
    the entry is the maximum, of 128 elsewhere. -/
theorem pick_first (f : ℕ → EReal) : ∃ p, First 128 f p ∧
    Finset.univ.fold min (⊤ : EReal) (fun l : Fin 128 => if f l.val = Finset.univ.fold max ⊥ (fun l : Fin 128 => f l.val)
      then ((l.val : ℝ) : EReal) else ((128 : ℝ) : EReal)) = ((p : ℝ) : EReal) := by
  classical
  set M := Finset.univ.fold max ⊥ (fun l : Fin 128 => f l.val) with hM
  have hle : ∀ l : Fin 128, f l.val ≤ M := fun l => (Finset.le_fold_max _).2 (Or.inr ⟨l, Finset.mem_univ _, le_rfl⟩)
  have hex : ∃ l : ℕ, l < 128 ∧ f l = M := by
    by_contra hno
    push Not at hno
    have : M < M := (Finset.fold_max_lt _).2 ⟨by
      rw [bot_lt_iff_ne_bot]
      intro e
      exact hno 0 (by omega) (le_antisymm (hle 0) (by rw [e]; exact bot_le)), fun l _ => lt_of_le_of_ne (hle l) (hno l.val l.isLt)⟩
    exact lt_irrefl _ this
  set p := Nat.find hex with hp
  obtain ⟨hp1, hp2⟩ := Nat.find_spec hex
  have hmin : ∀ l : ℕ, l < 128 → f l = M → p ≤ l := fun l hl e => Nat.find_min' hex ⟨hl, e⟩
  refine ⟨p, ⟨hp1, fun l hl => ?_⟩, le_antisymm ?_ ?_⟩
  · rw [hp2]
    rcases lt_or_eq_of_le (hle ⟨l, hl⟩) with h | h
    · exact Or.inl h
    · exact Or.inr ⟨h, hmin l hl h⟩
  · exact (Finset.fold_min_le _).2 (Or.inr ⟨⟨p, hp1⟩, Finset.mem_univ _, by rw [if_pos hp2]⟩)
  · refine (Finset.le_fold_min _).2 ⟨le_top, fun l _ => ?_⟩
    split
    · next h => exact_mod_cast hmin l.val l.isLt h
    · exact_mod_cast hp1.le

/-! ### A row of attention -/

/-- The product of two rows. -/
def dot (u v : Fin 128 → ℝ) : ℝ := ∑ d, u d * v d

theorem dot_coe (q k : Fin 128 → ℝ) : (∑ d, (q d : EReal) * (k d : EReal)) = (dot q k : EReal) := by
  unfold dot
  rw [coe_sum]
  exact Finset.sum_congr rfl fun d _ => (EReal.coe_mul _ _).symm

/-- The mean of the keys of block `b`. -/
def meanKey (K : ℕ → Fin 128 → ℝ) (b : ℕ) (d : Fin 128) : ℝ := (∑ i : Fin 256, K (256 * b + i.val) d) * (1 / 256)

/-- A query's gate for block `b`. -/
def gate (q : Fin 128 → ℝ) (K : ℕ → Fin 128 → ℝ) (b : ℕ) : ℝ := dot q (meanKey K b)

open scoped Classical in
/-- The scores of a query against its own block `n` (`r` its row there) and against block `b` of the past. -/
def ownScore (q : Fin 128 → ℝ) (K : ℕ → Fin 128 → ℝ) (n r : ℕ) (i : Fin 256) : EReal :=
  if i.val ≤ r then (dot q (K (256 * n + i.val)) : EReal) else ⊥

open scoped Classical in
def pastScore (q : Fin 128 → ℝ) (K : ℕ → Fin 128 → ℝ) (n b : ℕ) (i : Fin 256) : EReal :=
  if Chosen (gate q K) n b then (dot q (K (256 * b + i.val)) : EReal) else ⊥

theorem ownScore_ne_top (q : Fin 128 → ℝ) (K : ℕ → Fin 128 → ℝ) (n r : ℕ) (i : Fin 256) : ownScore q K n r i ≠ ⊤ := by
  unfold ownScore; split
  · exact EReal.coe_ne_top _
  · exact bot_ne_top

theorem pastScore_ne_top (q : Fin 128 → ℝ) (K : ℕ → Fin 128 → ℝ) (n b : ℕ) (i : Fin 256) : pastScore q K n b i ≠ ⊤ := by
  unfold pastScore; split
  · exact EReal.coe_ne_top _
  · exact bot_ne_top

/-- The sum of the weights of the own block and the first `m` blocks of the past, -/
def weights (q : Fin 128 → ℝ) (K : ℕ → Fin 128 → ℝ) (n r m : ℕ) : ℝ :=
  ∑ i, weight (ownScore q K n r i) + ∑ b ∈ Finset.range m, ∑ i, weight (pastScore q K n b i)

/-- and of the values so weighted. -/
def weighted (q : Fin 128 → ℝ) (K V : ℕ → Fin 128 → ℝ) (n r m : ℕ) (d : Fin 128) : ℝ :=
  ∑ i : Fin 256, weight (ownScore q K n r i) * V (256 * n + i.val) d
    + ∑ b ∈ Finset.range m, ∑ i : Fin 256, weight (pastScore q K n b i) * V (256 * b + i.val) d

theorem weights_pos (q : Fin 128 → ℝ) (K : ℕ → Fin 128 → ℝ) (n r m : ℕ) : 0 < weights q K n r m := by
  refine add_pos_of_pos_of_nonneg ?_ (Finset.sum_nonneg fun b _ => Finset.sum_nonneg fun i _ => weight_nonneg (pastScore_ne_top _ _ _ _ _))
  refine Finset.sum_pos' (fun i _ => weight_nonneg (ownScore_ne_top _ _ _ _ _)) ⟨0, Finset.mem_univ _, ?_⟩
  rw [ownScore, if_pos (show (0 : Fin 256).val ≤ r from Nat.zero_le _), weight_coe]
  exact Real.exp_pos _

/-- An entry of a row of the result: the query in row `r` of block `n`. -/
def attend (q : Fin 128 → ℝ) (K V : ℕ → Fin 128 → ℝ) (n r : ℕ) (d : Fin 128) : ℝ :=
  weighted q K V n r n d / weights q K n r n

end AttnRows
-- ==== Proof.AttnKernel.lean ====
/- The attention kernel's values at a row and a lane, in exact arithmetic. -/
module

public import proofs.«01_k».proof.Proof.AttnWeights
public import proofs.«01_k».proof.Proof.AttnIdealFrame
public import Idealize.ShloMosaic.Lib.Pointwise

@[expose] public section

set_option maxRecDepth 16384

noncomputable section

open Idealize.ShloMosaic Idealize.ShloMosaic.TcCoe Idealize.SL.Sem

namespace AttnRows

open Cert.AttnIdeal Cert.AttnIdeal.Gen Cert.AttnIdeal.Hand

theorem mask_eq : Named.named (F := Ideal) κ "mask" (φ := .f32) 0xF149F2CA#32 = (⊥ : EReal) := rfl

theorem lane_at (r : Fin 256) (l : Fin 128) : k0_pay3 (F := Ideal) (ix2 r l) = ((l.val : ℝ) : EReal) := by
  pointwise [k0_pay3]
  show (((BitVec.ofNat 32 l.val).toInt : ℝ) : EReal) = _
  rw [BitVec.toInt_eq_toNat_of_lt (by rw [BitVec.toNat_ofNat]; omega), BitVec.toNat_ofNat, Nat.mod_eq_of_lt (by omega)]
  simp

theorem small_word {n : ℕ} (hn : n < 16) : (Scf.iv 0#32 1#32 n).toInt = (n : ℤ) := by
  have : ∀ n : Fin 16, (Scf.iv 0#32 1#32 n.val).toInt = (n.val : ℤ) := by decide +kernel
  exact this ⟨n, hn⟩

theorem trip_lt (k : Fin k0_t1_loop.trips) : k.val < 16 := lt_of_lt_of_eq k.isLt query_trips

theorem number_at (k : Fin k0_t1_loop.trips) : k0_pay18 (F := Ideal) 0#32 1#32 k = ((k.val : ℝ) : EReal) := by
  show (((Scf.iv 0#32 1#32 k.val).toInt : ℝ) : EReal) = _
  rw [small_word (trip_lt k)]
  simp

theorem lanes_eq (a b : ℕ) : (((a : ℝ) : EReal) = ((b : ℝ) : EReal)) ↔ a = b := by
  rw [EReal.coe_eq_coe_iff, Nat.cast_inj]

theorem lanes_lt (a b : ℕ) : (((a : ℝ) : EReal) < ((b : ℝ) : EReal)) ↔ a < b := by
  rw [EReal.coe_lt_coe_iff, Nat.cast_lt]

theorem choose_and {α : Type} (p q : Prop) [Decidable p] [Decidable q] (x y : α) :
    Scalar.select (IntOp.andi (BitVec.ofBool (decide p)) (BitVec.ofBool (decide q))) x y = if p ∧ q then x else y := by
  by_cases hp : p <;> by_cases hq : q <;> simp [hp, hq, Scalar.select, IntOp.andi]

section Gates

variable (k : Fin k0_t1_loop.trips) (q : FVec Ideal S256x128 .bf16) (kb : FVec Ideal S128x128 .f32)
  (qr : Fin 256 → Fin 128 → ℝ) (kr : ℕ → Fin 128 → ℝ)
  (hq : ∀ r d, q (ix2 r d) = (qr r d : EReal)) (hk : ∀ (l : Fin 128) d, l.val < k.val → kb (ix2 l d) = (kr l.val d : EReal))

/-- A row's gates. -/
abbrev gates (r : Fin 256) : ℕ → EReal := lifted (fun b => dot (qr r) (kr b)) k.val

include hq hk

theorem gate_at (r : Fin 256) (l : Fin 128) :
    k0_pay19 (F := Ideal) k0_pay3 0#32 1#32 k q kb (ix2 r l) = gates k qr kr r l.val := by
  pointwise [k0_pay19, lane_at, number_at]
  rw [mask_eq]
  by_cases h : l.val < k.val
  · rw [if_pos ((lanes_lt _ _).2 h), gates, lifted_lt h]
    have e : ∀ d, q (ix2 r d) * kb (ix2 l d) = ((qr r d * kr l.val d : ℝ) : EReal) := fun d => by
      rw [hq, hk l d h, EReal.coe_mul]
    have z : ∀ d, q (ix2 r d) * (kb (ix2 l d) - kb (ix2 l d)) = 0 := fun d => by
      rw [Patterns.sub_self_real ⟨_, hk l d h⟩, mul_zero]
    simp only [e, z, Finset.sum_const_zero, add_zero]
    exact (coe_sum _ _).symm
  · rw [if_neg (fun h' => h ((lanes_lt _ _).1 h')), gates, lifted_ge h]

/-- The bias of a block: nothing if the block is chosen, minus infinity if not. -/
theorem bias_at (r : Fin 256) (l : Fin 128) (hl : l.val < k.val) :
    (Chosen (fun b => dot (qr r) (kr b)) k.val l.val → biasOf (F := Ideal) k q kb (ix2 r l) = (0 : EReal))
    ∧ (¬ Chosen (fun b => dot (qr r) (kr b)) k.val l.val → biasOf (F := Ideal) k q kb (ix2 r l) = (⊥ : EReal)) := by
  obtain ⟨p₁, f₁, e₁⟩ := pick_first (gates k qr kr r)
  obtain ⟨p₂, f₂, e₂⟩ := pick_first (without (gates k qr kr r) p₁)
  obtain ⟨p₃, f₃, e₃⟩ := pick_first (without (without (gates k qr kr r) p₁) p₂)
  have a20 : k0_pay20 (F := Ideal) k0_pay3 0#32 1#32 k q kb (ix2 r 0) = ((p₁ : ℝ) : EReal) := by
    pointwise [k0_pay20, lane_at, gate_at k q kb qr kr hq hk]
    rw [Patterns.plus_infinity, Patterns.minus_infinity, Patterns.one_twenty_eight]
    exact e₁
  have a23 : ∀ l : Fin 128, k0_pay23 (F := Ideal) k0_pay3 0#32 1#32 k q kb (ix2 r l) = without (gates k qr kr r) p₁ l.val := fun l => by
    pointwise [k0_pay23, k0_pay21, lane_at, gate_at k q kb qr kr hq hk, a20]
    rw [Patterns.minus_infinity]
    simp only [lanes_eq, without]
  have a22 : k0_pay22 (F := Ideal) k0_pay3 0#32 1#32 k q kb (ix2 r l) = if l.val = p₁ ∧ p₁ < k.val then (0 : EReal) else ⊥ := by
    pointwise [k0_pay22, k0_pay21, lane_at, number_at, a20]
    rw [mask_eq, choose_and]
    simp only [lanes_eq, lanes_lt]
  have a24 : k0_pay24 (F := Ideal) k0_pay3 0#32 1#32 k q kb (ix1 r) = ((p₂ : ℝ) : EReal) := by
    pointwise [k0_pay24, lane_at, a23]
    rw [Patterns.plus_infinity, Patterns.minus_infinity, Patterns.one_twenty_eight]
    exact e₂
  have pc := picks_chosen (N := 128) (by have := trip_lt k; omega) f₁ f₂ f₃ hl
  unfold biasOf
  pointwise [k0_pay25, lane_at, number_at, a22, a23, a24]
  rw [Patterns.plus_infinity, Patterns.minus_infinity, Patterns.one_twenty_eight]
  have e₄ : Finset.univ.fold min (⊤ : EReal) (fun x : Fin 128 =>
      if (if x.val = p₂ then ⊥ else without (gates k qr kr r) p₁ x.val)
        = Finset.univ.fold max ⊥ (fun x : Fin 128 => if x.val = p₂ then ⊥ else without (gates k qr kr r) p₁ x.val)
      then ((x.val : ℝ) : EReal) else ((128 : ℝ) : EReal)) = ((p₃ : ℝ) : EReal) := e₃
  simp only [choose_and, lanes_eq, lanes_lt]
  rw [e₄]
  simp only [lanes_eq, lanes_lt]
  refine ⟨fun hc => ?_, fun hc => ?_⟩
  · rcases pc.2 hc with h | h | h
    · rw [if_pos (⟨h, by omega⟩ : l.val = p₁ ∧ p₁ < k.val), ite_self, ite_self]
    · rw [if_pos (⟨h, by omega⟩ : l.val = p₂ ∧ p₂ < k.val), ite_self]
    · rw [if_pos (⟨h, by omega⟩ : l.val = p₃ ∧ p₃ < k.val)]
  · have hn : ¬ (l.val = p₁ ∨ l.val = p₂ ∨ l.val = p₃) := fun h => hc (pc.1 h)
    push Not at hn
    rw [if_neg (fun h => hn.2.2 h.1), if_neg (fun h => hn.2.1 h.1), if_neg (fun h => hn.1 h.1)]

end Gates

/-- The score of a past block: the product if the block is chosen, minus infinity if not. -/
theorem score_at (k : Fin k0_t1_loop.trips) (q : FVec Ideal S256x128 .bf16) (bias : FVec Ideal S256x128 .f32) (b : Fin (k0_t2_loop k).trips)
    (K : FVec Ideal S256x128 .bf16) (r j : Fin 256) (hb : b.val < 16) :
    k0_pay5 (F := Ideal) k q bias 0#32 b K (ix2 r j) = ∑ d, q (ix2 r d) * K (ix2 j d) + bias (ix2 r ⟨b.val, by omega⟩) := by
  pointwise [k0_pay5, lane_at]
  rw [small_word hb]
  refine congrArg (_ + ·) ?_
  rw [Finset.sum_eq_single ⟨b.val, by omega⟩]
  · rw [if_pos (by simp)]
  · intro x _ hx
    rw [if_neg]
    intro h
    rw [Int.cast_natCast, lanes_eq] at h
    exact hx (Fin.ext h)
  · intro h; exact absurd (Finset.mem_univ _) h

theorem own_at (q K : FVec Ideal S256x128 .bf16) (r j : Fin 256) :
    k0_pay26 (F := Ideal) k0_pay4 q K (ix2 r j) = if j.val ≤ r.val then ∑ d, q (ix2 r d) * K (ix2 j d) else (⊥ : EReal) := by
  pointwise [k0_pay26, k0_pay4]
  rw [mask_eq, Patterns.select_sle (by omega) (by omega)]

end AttnRows
-- ==== Proof.AttnBody.lean ====
/- The attention kernel's trips: the softmax each row carries through its past blocks, and what a trip
   stores. -/
module

public import proofs.«01_k».proof.Proof.AttnKernel
public import Idealize.ShloMosaic.Lib.Pipeline.ValueKit

@[expose] public section

set_option maxRecDepth 16384

noncomputable section

open Idealize.ShloMosaic Idealize.ShloMosaic.TcCoe Idealize.SL.Sem

namespace AttnRows

open Cert.AttnIdeal Cert.AttnIdeal.Gen Cert.AttnIdeal.Hand

/-- What is carried for row `r`: the running softmax of the own block and the first `m` blocks of the past. -/
abbrev Holds (acc : FVec Ideal S256x1 .f32 × FVec Ideal S256x1 .f32 × FVec Ideal S256x128 .f32)
    (q : Fin 128 → ℝ) (K V : ℕ → Fin 128 → ℝ) (n : ℕ) (r : Fin 256) (m : ℕ) : Prop :=
  Carries (acc.1 (ix2 r 0)) (acc.2.1 (ix2 r 0)) (fun d : Fin 128 => acc.2.2 (ix2 r d)) (weights q K n r.val m) (weighted q K V n r.val m)

theorem own_holds (q k v : FVec Ideal S256x128 .bf16) (qr : Fin 256 → Fin 128 → ℝ) (K V : ℕ → Fin 128 → ℝ) (n : ℕ)
    (hq : ∀ r d, q (ix2 r d) = (qr r d : EReal)) (hk : ∀ j d, k (ix2 j d) = (K (256 * n + j.val) d : EReal))
    (hv : ∀ j d, v (ix2 j d) = (V (256 * n + j.val) d : EReal)) (r : Fin 256) :
    Holds (ownOf (F := Ideal) q k v) (qr r) K V n r 0 := by
  have s : ∀ j, k0_pay26 (F := Ideal) k0_pay4 q k (ix2 r j) = ownScore (qr r) K n r.val j := fun j => by
    rw [own_at, ownScore]
    simp only [hq, hk, dot_coe]
  set x := ownScore (qr r) K n r.val with hx
  have e27 : k0_pay27 (F := Ideal) k0_pay4 q k (ix2 r 0) = Finset.univ.fold max ⊥ x := by
    pointwise [k0_pay27, s]
    rw [Patterns.minus_infinity]
  have e29 : k0_pay29 (F := Ideal) k0_pay4 q k (ix2 r 0)
      = ∑ j, Ideal.exp (x j - Finset.univ.fold max ⊥ x) := by
    pointwise [k0_pay29, k0_pay28, s, e27]
  have e30 : ∀ d, k0_pay30 (F := Ideal) k0_pay4 q k v (ix2 r d)
      = ∑ j : Fin 256, Ideal.exp (x j - Finset.univ.fold max ⊥ x) * (V (256 * n + j.val) d : EReal) := fun d => by
    pointwise [k0_pay30, k0_pay28, s, e27, hv]
  have h := carries_start (D := 128) x (ownScore_ne_top _ _ _ _) 0
    (by rw [hx, ownScore, if_pos (show (0 : Fin 256).val ≤ r.val from Nat.zero_le _)]; exact EReal.coe_ne_bot _)
    (fun j d => V (256 * n + j.val) d)
  unfold Holds ownOf
  simp only [e27, e29, e30]
  have w : weights (qr r) K n r.val 0 = ∑ j, weight (x j) := by simp [weights, hx]
  have w' : weighted (qr r) K V n r.val 0 = fun d => ∑ j : Fin 256, weight (x j) * V (256 * n + j.val) d := by
    funext d; simp [weighted, hx]
  rw [w, w']
  exact h

theorem step_holds (k : Fin k0_t1_loop.trips) (b : Fin (k0_t2_loop k).trips) (hb : b.val < k.val)
    (q : FVec Ideal S256x128 .bf16) (kb : FVec Ideal S128x128 .f32) (kk vv : FVec Ideal S256x128 .bf16)
    (qr : Fin 256 → Fin 128 → ℝ) (K V : ℕ → Fin 128 → ℝ)
    (hq : ∀ r d, q (ix2 r d) = (qr r d : EReal))
    (hm : ∀ (l : Fin 128) d, l.val < k.val → kb (ix2 l d) = (meanKey K l.val d : EReal))
    (hk : ∀ j d, kk (ix2 j d) = (K (256 * b.val + j.val) d : EReal))
    (hv : ∀ j d, vv (ix2 j d) = (V (256 * b.val + j.val) d : EReal)) (r : Fin 256)
    (acc : FVec Ideal S256x1 .f32 × FVec Ideal S256x1 .f32 × FVec Ideal S256x128 .f32)
    (h : Holds acc (qr r) K V k.val r b.val) :
    Holds (k0_pay6 (F := Ideal) k q (biasOf k q kb) 0#32 b acc.1 kk, k0_pay9 (F := Ideal) k q (biasOf k q kb) 0#32 b acc.1 acc.2.1 kk,
      k0_pay10 (F := Ideal) k q (biasOf k q kb) 0#32 b acc.1 acc.2.2 kk vv) (qr r) K V k.val r (b.val + 1) := by
  have hb16 : b.val < 16 := hb.trans (trip_lt k)
  have s : ∀ j, k0_pay5 (F := Ideal) k q (biasOf k q kb) 0#32 b kk (ix2 r j) = pastScore (qr r) K k.val b.val j := fun j => by
    rw [score_at k q _ b kk r j hb16, pastScore]
    simp only [hq, hk, dot_coe]
    have ba := bias_at k q kb qr (meanKey K) hq hm r ⟨b.val, by omega⟩ hb
    by_cases hc : Chosen (gate (qr r) K) k.val b.val
    · rw [if_pos hc, ba.1 hc, add_zero]
    · rw [if_neg hc, ba.2 hc, EReal.add_bot]
  set x := pastScore (qr r) K k.val b.val with hx
  have e6 : k0_pay6 (F := Ideal) k q (biasOf k q kb) 0#32 b acc.1 kk (ix2 r 0) = max (acc.1 (ix2 r 0)) (Finset.univ.fold max ⊥ x) := by
    pointwise [k0_pay6, s]
    rw [Patterns.minus_infinity]
  have e9 : k0_pay9 (F := Ideal) k q (biasOf k q kb) 0#32 b acc.1 acc.2.1 kk (ix2 r 0)
      = Ideal.exp (acc.1 (ix2 r 0) - max (acc.1 (ix2 r 0)) (Finset.univ.fold max ⊥ x)) * acc.2.1 (ix2 r 0)
        + ∑ j, Ideal.exp (x j - max (acc.1 (ix2 r 0)) (Finset.univ.fold max ⊥ x)) := by
    pointwise [k0_pay9, k0_pay7, k0_pay8, s, e6]
  have e10 : ∀ d, k0_pay10 (F := Ideal) k q (biasOf k q kb) 0#32 b acc.1 acc.2.2 kk vv (ix2 r d)
      = Ideal.exp (acc.1 (ix2 r 0) - max (acc.1 (ix2 r 0)) (Finset.univ.fold max ⊥ x)) * acc.2.2 (ix2 r d)
        + ∑ j : Fin 256, Ideal.exp (x j - max (acc.1 (ix2 r 0)) (Finset.univ.fold max ⊥ x)) * (V (256 * b.val + j.val) d : EReal) := fun d => by
    pointwise [k0_pay10, k0_pay7, k0_pay8, s, e6, hv]
  have hs := carries_step h x (pastScore_ne_top _ _ _ _) (fun (j : Fin 256) d => V (256 * b.val + j.val) d)
  show Carries (k0_pay6 (F := Ideal) k q (biasOf k q kb) 0#32 b acc.1 kk (ix2 r 0)) _ (fun d => k0_pay10 (F := Ideal) k q (biasOf k q kb) 0#32 b acc.1 acc.2.2 kk vv (ix2 r d)) _ _
  simp only [e6, e9, e10]
  have w : weights (qr r) K k.val r.val (b.val + 1) = weights (qr r) K k.val r.val b.val + ∑ j, weight (x j) := by
    rw [weights, weights, Finset.sum_range_succ, add_assoc]
  have w' : weighted (qr r) K V k.val r.val (b.val + 1)
      = fun d => weighted (qr r) K V k.val r.val b.val d + ∑ j : Fin 256, weight (x j) * V (256 * b.val + j.val) d := by
    funext d
    rw [weighted, weighted, Finset.sum_range_succ, add_assoc]
  rw [w, w']
  exact hs

section Trip

variable (𝒱 : Variants) (c : Dev nD) (bd : Option 𝒱.V) (i : grid0.Coords)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S128x128 .f32) (harg6 : arg6.IsWhole)
  (X2 : BufTy.Contents (Elt Ideal) arg2.view.ty) (X3 : BufTy.Contents (Elt Ideal) arg3.view.ty)
  (X4 : BufTy.Contents (Elt Ideal) arg4.view.ty) (X6 : BufTy.Contents (Elt Ideal) arg6.view.ty)
  (Q K V : ℕ → Fin 128 → ℝ)
  (h2 : ∀ s d, View.read (Elt Ideal) arg2.view X2 (ix2 s d) = (Q s.val d : EReal))
  (h3 : ∀ s d, View.read (Elt Ideal) arg3.view X3 (ix2 s d) = (K s.val d : EReal))
  (h4 : ∀ s d, View.read (Elt Ideal) arg4.view X4 (ix2 s d) = (V s.val d : EReal))
  (h6 : ∀ l d, l.val < 16 → View.read (Elt Ideal) arg6.view X6 (ix2 l d) = (meanKey K l.val d : EReal))

/-- Rows `256 n + j` of an array read by its block `n`. -/
theorem block_at (a : Memref sig .tc .vmem S4096x128 .bf16) (X : BufTy.Contents (Elt Ideal) a.view.ty) (M : ℕ → Fin 128 → ℝ)
    (h : ∀ s d, View.read (Elt Ideal) a.view X (ix2 s d) = (M s.val d : EReal)) (off : Fin 2 → ℕ) (inb) (n : ℕ) (ho : off = ![256 * n, 0])
    (j : Fin 256) (d : Fin 128) :
    View.readAt (Elt Ideal) a.view (Rect.unit (s := S4096x128) off S256x128.size inb).toLoadRect X (ix2 j d) = (M (256 * n + j.val) d : EReal) := by
  subst ho
  have hn : 256 * n + 256 ≤ 4096 := inb 0
  have e : (Rect.unit (s := S4096x128) ![256 * n, 0] S256x128.size inb).toLoadRect.idx (ix2 j d) = ix2 (⟨256 * n + j.val, by omega⟩ : Fin 4096) d := by
    funext a
    refine Fin.ext ?_
    refine (ValueKit.rect_emb_unit_val _ _ inb (ix2 j d) a).trans ?_
    match a with
    | ⟨0, _⟩ => rfl
    | ⟨1, _⟩ => exact Nat.zero_add _
  rw [View.readAt_apply, e, h]

include h2 h3 h4 h6

theorem past_holds (k : Fin k0_t1_loop.trips) (r : Fin 256) (m : ℕ) (hm : m ≤ (k0_t2_loop k).trips) :
    Holds (st_k0_t2 (F := Ideal) 𝒱 c bd i arg2 harg2 arg3 harg3 arg4 harg4 arg5 harg5 arg6 harg6 k
      (qBlk (F := Ideal) arg2 X2 k) (biasOf k (qBlk (F := Ideal) arg2 X2 k) (means (F := Ideal) arg6 X6)) 0#32 X3 X4
      (ownOf (qBlk (F := Ideal) arg2 X2 k) (kBlk (F := Ideal) arg3 X3 k) (vBlk (F := Ideal) arg4 X4 k)) m)
      (Q (256 * k.val + r.val)) K V k.val r m := by
  have hq : ∀ r d, qBlk (F := Ideal) arg2 X2 k (ix2 r d) = (Q (256 * k.val + r.val) d : EReal) :=
    block_at arg2 X2 Q h2 _ _ _ (off1_eq k)
  induction m with
  | zero =>
    rw [st_k0_t2_zero]
    exact own_holds _ _ _ (fun r => Q (256 * k.val + r.val)) K V k.val hq (block_at arg3 X3 K h3 _ _ _ (off1_eq k))
      (block_at arg4 X4 V h4 _ _ _ (off1_eq k)) r
  | succ m ih =>
    have e := st_k0_t2_succ (F := Ideal) 𝒱 c bd i arg2 harg2 arg3 harg3 arg4 harg4 arg5 harg5 arg6 harg6 k
      (qBlk (F := Ideal) arg2 X2 k) (biasOf k (qBlk (F := Ideal) arg2 X2 k) (means (F := Ideal) arg6 X6)) 0#32 X3 X4
      (ownOf (qBlk (F := Ideal) arg2 X2 k) (kBlk (F := Ideal) arg3 X3 k) (vBlk (F := Ideal) arg4 X4 k)) ⟨m, hm⟩
    rw [e]
    unfold tripR_k0_t2 trip_k0_t2
    refine step_holds k ⟨m, hm⟩ ?_ _ _ _ _ (fun r => Q (256 * k.val + r.val)) K V hq ?_ (block_at arg3 X3 K h3 _ _ _ (off2_eq k ⟨m, hm⟩))
      (block_at arg4 X4 V h4 _ _ _ (off2_eq k ⟨m, hm⟩)) r _ (ih (Nat.le_of_lt hm))
    · exact lt_of_lt_of_eq hm (past_trips k)
    · intro l d hl
      have e : (Rect.unit (s := S128x128) ![0, 0] S128x128.size inb_S128x128_S128x128_0_0).toLoadRect.idx (ix2 l d) = ix2 l d := by
        funext a
        refine Fin.ext ?_
        refine (ValueKit.rect_emb_unit_val _ _ inb_S128x128_S128x128_0_0 (ix2 l d) a).trans ?_
        match a with
        | ⟨0, _⟩ => exact Nat.zero_add _
        | ⟨1, _⟩ => exact Nat.zero_add _
      unfold means
      rw [View.readAt_apply, e, h6 l d (hl.trans (trip_lt k))]

/-- What a trip stores in a row and a lane of its block. -/
theorem trip_at (k : Fin k0_t1_loop.trips) (r : Fin 256) (d : Fin 128) :
    tripVal (F := Ideal) 𝒱 c bd i arg2 harg2 arg3 harg3 arg4 harg4 arg5 harg5 arg6 harg6 X2 X3 X4 X6 k (ix2 r d)
      = (attend (Q (256 * k.val + r.val)) K V k.val r.val d : EReal) := by
  have hp := past_holds 𝒱 c bd i arg2 harg2 arg3 harg3 arg4 harg4 arg5 harg5 arg6 harg6 X2 X3 X4 X6 Q K V h2 h3 h4 h6 k r _ le_rfl
  unfold tripVal
  have e : restOf (F := Ideal) 𝒱 c bd i arg2 harg2 arg3 harg3 arg4 harg4 arg5 harg5 arg6 harg6 X2 X3 X4 X6 k
      = pastOf (F := Ideal) 𝒱 c bd i arg2 harg2 arg3 harg3 arg4 harg4 arg5 harg5 arg6 harg6 X2 X3 X4 X6 k := by
    unfold restOf
    rw [rest_trips k]
    rfl
  rw [e]
  have hp' : Holds (pastOf (F := Ideal) 𝒱 c bd i arg2 harg2 arg3 harg3 arg4 harg4 arg5 harg5 arg6 harg6 X2 X3 X4 X6 k)
      (Q (256 * k.val + r.val)) K V k.val r k.val := by
    have := hp
    unfold Holds at this ⊢
    rw [show weights (Q (256 * k.val + r.val)) K k.val r.val (k0_t2_loop k).trips = weights (Q (256 * k.val + r.val)) K k.val r.val k.val from by rw [past_trips],
      show weighted (Q (256 * k.val + r.val)) K V k.val r.val (k0_t2_loop k).trips = weighted (Q (256 * k.val + r.val)) K V k.val r.val k.val from by rw [past_trips]] at this
    exact this
  generalize pastOf (F := Ideal) 𝒱 c bd i arg2 harg2 arg3 harg3 arg4 harg4 arg5 harg5 arg6 harg6 X2 X3 X4 X6 k = acc at hp'
  have he := carries_end hp' (weights_pos _ _ _ _ _).ne' d
  pointwise [k0_pay17]
  exact he

end Trip

end AttnRows
-- ==== Proof.AttnOut.lean ====
/- The attention kernel's whole body at a row and a lane: the block means it writes first, and the
   sixteen blocks of rows it then stores. -/
module

public import proofs.«01_k».proof.Proof.AttnBody

@[expose] public section

set_option maxRecDepth 16384

noncomputable section

open Idealize.ShloMosaic Idealize.ShloMosaic.TcCoe Idealize.SL.Sem

namespace AttnRows

open Cert.AttnIdeal Cert.AttnIdeal.Gen Cert.AttnIdeal.Hand

theorem mean_row_inb (n : Fin 16) : ∀ a, (![n.val, 0] : Fin 2 → ℕ) a + S1x128.size a ≤ S128x128.size a := by
  revert n; decide
theorem key_block_inb (n : Fin 16) : ∀ a, (![256 * n.val, 0] : Fin 2 → ℕ) a + S256x128.size a ≤ S4096x128.size a := by
  revert n; decide

/-- The mean of block `n` of the keys, stored in row `n`. -/
def meanRow (a : Memref sig .tc .vmem S4096x128 .bf16) (X : BufTy.Contents (Elt Ideal) a.view.ty) (n : Fin 16) :
    View.Piece (Elt Ideal) S128x128 .f32 :=
  ⟨Rect.unit (s := S128x128) ![n.val, 0] S1x128.size (mean_row_inb n),
    k0_pay32 (F := Ideal) (View.readAt (Elt Ideal) a.view (Rect.unit (s := S4096x128) ![256 * n.val, 0] S256x128.size (key_block_inb n)).toLoadRect X)⟩

theorem pay32_at (v : FVec Ideal S256x128 .bf16) (K : ℕ → Fin 128 → ℝ) (n : ℕ)
    (h : ∀ i d, v (ix2 i d) = (K (256 * n + i.val) d : EReal)) (z : Fin 1) (d : Fin 128) :
    k0_pay32 (F := Ideal) v (ix2 z d) = (meanKey K n d : EReal) := by
  pointwise [k0_pay32, h]
  rw [Patterns.one_over_256, meanKey, EReal.coe_mul, coe_sum]

/-- Row `n` of the means. -/
theorem meanRow_at (a : Memref sig .tc .vmem S4096x128 .bf16) (X : BufTy.Contents (Elt Ideal) a.view.ty) (K : ℕ → Fin 128 → ℝ)
    (h : ∀ s d, View.read (Elt Ideal) a.view X (ix2 s d) = (K s.val d : EReal)) (n : Fin 16) (x : (meanRow a X n).1.shape.Idx) :
    (meanRow a X n).2 x = ((meanKey K ((meanRow a X n).1.emb x 0).val ((meanRow a X n).1.emb x 1) : ℝ) : EReal) := by
  change S1x128.Idx at x
  have e0 : ((meanRow a X n).1.emb x 0 : Nat) = n.val := by
    refine (ValueKit.rect_emb_unit_val (s := S128x128) ![n.val, 0] S1x128.size (mean_row_inb n) x 0).trans ?_
    have : (x 0 : Nat) < 1 := (x 0).isLt
    show n.val + (x 0 : Nat) = n.val
    omega
  have e1 : (meanRow a X n).1.emb x 1 = x 1 := by
    refine Fin.ext ((ValueKit.rect_emb_unit_val (s := S128x128) ![n.val, 0] S1x128.size (mean_row_inb n) x 1).trans ?_)
    exact Nat.zero_add _
  rw [e0, e1]
  idx_vars x
  exact pay32_at _ K n.val (block_at a X K h _ _ _ rfl) _ _

section Whole

variable (c : Dev nD) (i : grid0.Coords)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S128x128 .f32) (harg6 : arg6.IsWhole)
  (x0 x1 x2 : Vec Ideal S4096x128 .bf16)

theorem meanPieces_eq : meanPieces (F := Ideal) c i arg2 harg2 arg3 harg3 arg4 harg4 arg5 harg5 arg6 harg6 x0 x1 x2
    = List.map (meanRow arg3 (harg3.unread x1)) [15, 14, 13, 12, 11, 10, 9, 8, 7, 6, 5, 4, 3, 2, 1, 0]
      ++ [⟨Rect.unit (s := S128x128) ![0, 0] S128x128.size inb_S128x128_S128x128_0_0, k0_pay31 (F := Ideal)⟩] := by
  unfold meanPieces bodyRun
  rfl

/-- An entry of the means. -/
def meanAt (K : ℕ → Fin 128 → ℝ) (y : S128x128.Idx) : EReal := ((meanKey K (y 0).val (y 1) : ℝ) : EReal)

theorem means_at (K : ℕ → Fin 128 → ℝ) (h1 : ∀ s d, x1 (ix2 s d) = (K s.val d : EReal)) (l d : Fin 128) (hl : l.val < 16) :
    View.read (Elt Ideal) arg6.view (arg6.view.writes (Elt Ideal) arg6.view.junk
      (meanPieces (F := Ideal) c i arg2 harg2 arg3 harg3 arg4 harg4 arg5 harg5 arg6 harg6 x0 x1 x2)) (ix2 l d) = (meanKey K l.val d : EReal) := by
  rw [meanPieces_eq, View.writes_append]
  refine View.read_writes_apply_of_pieces (Val := Elt Ideal) arg6.view _ (meanAt K) _ ?_ (ix2 l d) ?_
  · intro p hp x
    obtain ⟨n, -, rfl⟩ := List.mem_map.1 hp
    exact meanRow_at arg3 _ K (fun s d => by rw [harg3.read_unread]; exact h1 s d) n x
  · refine ⟨_, List.mem_map_of_mem (a := (⟨l.val, hl⟩ : Fin 16)) ?_, ?_⟩
    · exact (by decide : ∀ n : Fin 16, n ∈ ([15, 14, 13, 12, 11, 10, 9, 8, 7, 6, 5, 4, 3, 2, 1, 0] : List (Fin 16))) _
    · unfold meanRow
      rw [Rect.mem_set_unit]
      intro a
      match a with
      | ⟨0, _⟩ => show l.val ≤ l.val ∧ l.val < l.val + 1; omega
      | ⟨1, _⟩ => show 0 ≤ d.val ∧ d.val < 0 + 128; omega

variable (Q K V : ℕ → Fin 128 → ℝ)

/-- The result's entry at a row and a lane. -/
def attendAt (y : S4096x128.Idx) : EReal := ((attend (Q (y 0).val) K V ((y 0).val / 256) ((y 0).val % 256) (y 1) : ℝ) : EReal)

theorem pieces_at (𝒱 : Variants) (bd : Option 𝒱.V)
    (X2 : BufTy.Contents (Elt Ideal) arg2.view.ty) (X3 : BufTy.Contents (Elt Ideal) arg3.view.ty)
    (X4 : BufTy.Contents (Elt Ideal) arg4.view.ty) (X6 : BufTy.Contents (Elt Ideal) arg6.view.ty)
    (h2 : ∀ s d, View.read (Elt Ideal) arg2.view X2 (ix2 s d) = (Q s.val d : EReal))
    (h3 : ∀ s d, View.read (Elt Ideal) arg3.view X3 (ix2 s d) = (K s.val d : EReal))
    (h4 : ∀ s d, View.read (Elt Ideal) arg4.view X4 (ix2 s d) = (V s.val d : EReal))
    (h6 : ∀ l d, l.val < 16 → View.read (Elt Ideal) arg6.view X6 (ix2 l d) = (meanKey K l.val d : EReal))
    (n : ℕ) (hn : n ≤ k0_t1_loop.trips) :
    ∀ p ∈ pieces (F := Ideal) 𝒱 c bd i arg2 harg2 arg3 harg3 arg4 harg4 arg5 harg5 arg6 harg6 X2 X3 X4 X6 n,
      ∀ x : p.1.shape.Idx, p.2 x = attendAt Q K V (p.1.emb x) := by
  induction n with
  | zero => intro p hp; exact absurd hp List.not_mem_nil
  | succ n ih =>
    rw [pieces_succ 𝒱 c bd i arg2 harg2 arg3 harg3 arg4 harg4 arg5 harg5 arg6 harg6 X2 X3 X4 X6 ⟨n, hn⟩, trip_eq]
    intro p hp x
    rcases List.mem_append.1 hp with h | h
    · obtain rfl := List.mem_singleton.1 h
      change S256x128.Idx at x
      set R : Rect S4096x128 := Rect.unit (s := S4096x128) (k0_off1 ⟨n, hn⟩) S256x128.size (k0_off1_inb ⟨n, hn⟩) with hR
      have x0 : (x 0 : Nat) < 256 := (x 0).isLt
      have e0 : (R.emb x 0 : Nat) = 256 * n + (x 0 : Nat) := by
        refine (ValueKit.rect_emb_unit_val (s := S4096x128) (k0_off1 ⟨n, hn⟩) S256x128.size (k0_off1_inb ⟨n, hn⟩) x 0).trans ?_
        exact congrArg (· + (x 0 : Nat)) (congrFun (off1_eq ⟨n, hn⟩) 0)
      have e1 : R.emb x 1 = x 1 := by
        refine Fin.ext ((ValueKit.rect_emb_unit_val (s := S4096x128) (k0_off1 ⟨n, hn⟩) S256x128.size (k0_off1_inb ⟨n, hn⟩) x 1).trans ?_)
        exact (congrArg (· + (x 1 : Nat)) (congrFun (off1_eq ⟨n, hn⟩) 1)).trans (Nat.zero_add _)
      show tripVal (F := Ideal) 𝒱 c bd i arg2 harg2 arg3 harg3 arg4 harg4 arg5 harg5 arg6 harg6 X2 X3 X4 X6 ⟨n, hn⟩ x = attendAt Q K V (R.emb x)
      unfold attendAt
      rw [e0, e1, show (256 * n + (x 0 : Nat)) / 256 = n by omega, show (256 * n + (x 0 : Nat)) % 256 = (x 0 : Nat) by omega]
      idx_vars x
      exact trip_at 𝒱 c bd i arg2 harg2 arg3 harg3 arg4 harg4 arg5 harg5 arg6 harg6 X2 X3 X4 X6 Q K V h2 h3 h4 h6 ⟨n, hn⟩ _ _
    · exact ih (Nat.le_of_lt hn) p h x

theorem bodyOut_at (h0 : ∀ s d, x0 (ix2 s d) = (Q s.val d : EReal)) (h1 : ∀ s d, x1 (ix2 s d) = (K s.val d : EReal))
    (h2 : ∀ s d, x2 (ix2 s d) = (V s.val d : EReal)) (s : Fin 4096) (d : Fin 128) :
    bodyOut (F := Ideal) c i arg2 harg2 arg3 harg3 arg4 harg4 arg5 harg5 arg6 harg6 x0 x1 x2 (ix2 s d)
      = ((attend (Q s.val) K V (s.val / 256) (s.val % 256) d : ℝ) : EReal) := by
  unfold bodyOut
  exact View.read_writes_apply_of_pieces arg5.view _ (attendAt Q K V) _
    (pieces_at c i arg2 harg2 arg3 harg3 arg4 harg4 arg5 harg5 arg6 harg6 Q K V _ _ _ _ _ _
      (fun s d => by rw [harg2.read_unread]; exact h0 s d) (fun s d => by rw [harg3.read_unread]; exact h1 s d)
      (fun s d => by rw [harg4.read_unread]; exact h2 s d)
      (fun l d hl => means_at c i arg2 harg2 arg3 harg3 arg4 harg4 arg5 harg5 arg6 harg6 x0 x1 x2 K h1 l d hl) _ le_rfl) (ix2 s d)
    (outPieces_cover c i arg2 harg2 arg3 harg3 arg4 harg4 arg5 harg5 arg6 harg6 x0 x1 x2 (ix2 s d))

end Whole

end AttnRows
-- ==== Proof.AttnPick.lean ====
/- Sums over the three picked blocks as sums over the chosen blocks, and sums over a row of scores as
   sums over its four parts. -/
module

public import proofs.«01_k».proof.Proof.AttnWeights

@[expose] public section

noncomputable section

open Idealize.ShloMosaic

namespace AttnRows

open Patterns (IsReal)

/-- A sum over a row of 1024: its first three parts, then its last. -/
theorem sum_parts {M : Type} [AddCommMonoid M] (f : Fin 1024 → M) :
    ∑ x, f x = ∑ j : Fin 3, ∑ i : Fin 256, f ⟨256 * j.val + i.val, by omega⟩ + ∑ i : Fin 256, f ⟨768 + i.val, by omega⟩ := by
  have e : ∑ x, f x = ∑ p : Fin 4 × Fin 256, f ⟨256 * p.1.val + p.2.val, by have := p.1.isLt; have := p.2.isLt; omega⟩ := by
    refine (Equiv.sum_comp (finProdFinEquiv (m := 4) (n := 256)) f).symm.trans (Finset.sum_congr rfl fun p _ => congrArg f (Fin.ext ?_))
    show p.2.val + 256 * p.1.val = 256 * p.1.val + p.2.val
    omega
  rw [e, Fintype.sum_prod_type, Fin.sum_univ_castSucc]
  rfl

/-- The block in place `j` of the order of the gates. -/
def pick (g : ℕ → ℝ) (n : ℕ) (j : Fin 3) : ℕ := (sortedFrom (above (lifted g n) 16) ⟨j.val, by omega⟩).val

theorem pick_lt (g : ℕ → ℝ) (n : ℕ) (j : Fin 3) : pick g n j < 16 := (sortedFrom (above (lifted g n) 16) ⟨j.val, by omega⟩).isLt

open scoped Classical in
/-- Over the picked blocks, those of the past counted, a sum is one over the chosen blocks of the past. -/
theorem picked_sum (g : ℕ → ℝ) (n : ℕ) (hn : n ≤ 16) (T : ℕ → ℝ) :
    ∑ j : Fin 3, (if pick g n j < n then T (pick g n j) else 0) = ∑ b ∈ Finset.range n, if Chosen g n b then T b else 0 := by
  set π := sortedFrom (above (lifted g n) 16) with hπ
  have bij : Function.Bijective π := ⟨sortedFrom_injective _, sortedFrom_surjective _⟩
  set H : Fin 16 → ℝ := fun b => if b.val < n ∧ Chosen g n b.val then T b.val else 0 with hH
  have a : ∑ i, H (π i) = ∑ b, H b := bij.sum_comp H
  have l : ∑ i, H (π i) = ∑ j : Fin 3, (if pick g n j < n then T (pick g n j) else 0) := by
    rw [show (∑ i : Fin 16, H (π i)) = ∑ i : Fin (3 + 13), H (π i) from rfl, Fin.sum_univ_add]
    have z : ∑ i : Fin 13, H (π (Fin.natAdd 3 i)) = 0 := Finset.sum_eq_zero fun i _ => by
      rw [hH]
      refine if_neg fun h => ?_
      have := (sorted_chosen hn (by omega) (Fin.natAdd 3 i) h.1).1 h.2
      simp at this
    rw [z, add_zero]
    refine Finset.sum_congr rfl fun j _ => ?_
    have hj : π (Fin.castAdd 13 j) = π ⟨j.val, by omega⟩ := rfl
    rw [hj, hH]
    show (if (π ⟨j.val, _⟩).val < n ∧ Chosen g n (π ⟨j.val, _⟩).val then _ else _) = if (π ⟨j.val, _⟩).val < n then _ else _
    by_cases h : (π ⟨j.val, by omega⟩).val < n
    · rw [if_pos h, if_pos ⟨h, (sorted_chosen hn (by omega) _ h).2 j.isLt⟩]; rfl
    · rw [if_neg h, if_neg fun h' => h h'.1]
  have r : ∑ b, H b = ∑ b ∈ Finset.range n, if Chosen g n b then T b else 0 := by
    rw [Finset.sum_fin_eq_sum_range]
    rw [← Finset.sum_subset (Finset.range_mono hn)]
    · refine Finset.sum_congr rfl fun b hb => ?_
      have hb' := Finset.mem_range.1 hb
      rw [dif_pos (by omega), hH]
      simp only [hb', true_and]
    · intro b hb hb'
      rw [dif_pos (Finset.mem_range.1 hb), hH]
      exact if_neg fun h => hb' (Finset.mem_range.2 h.1)
  rw [← l, a, r]

open scoped Classical in
/-- The score of a query against key `i` of the block picked in place `j`. -/
def pickScore (q : Fin 128 → ℝ) (K : ℕ → Fin 128 → ℝ) (n : ℕ) (j : Fin 3) (i : Fin 256) : EReal :=
  if pick (gate q K) n j < n then (dot q (K (256 * pick (gate q K) n j + i.val)) : EReal) else ⊥

theorem pickScore_ne_top (q : Fin 128 → ℝ) (K : ℕ → Fin 128 → ℝ) (n : ℕ) (j : Fin 3) (i : Fin 256) : pickScore q K n j i ≠ ⊤ := by
  unfold pickScore; split
  · exact EReal.coe_ne_top _
  · exact bot_ne_top

/-- Weighted sums over the picked blocks. -/
theorem picked_weights (q : Fin 128 → ℝ) (K : ℕ → Fin 128 → ℝ) (n : ℕ) (hn : n ≤ 16) (c : ℕ → Fin 256 → ℝ) :
    ∑ j : Fin 3, ∑ i, weight (pickScore q K n j i) * c (pick (gate q K) n j) i
      = ∑ b ∈ Finset.range n, ∑ i, weight (pastScore q K n b i) * c b i := by
  classical
  have l := picked_sum (gate q K) n hn (fun b => ∑ i : Fin 256, weight (dot q (K (256 * b + i.val)) : EReal) * c b i)
  refine Eq.trans (Finset.sum_congr rfl fun j _ => ?_) (l.trans (Finset.sum_congr rfl fun b _ => ?_))
  · by_cases h : pick (gate q K) n j < n
    · simp only [pickScore, if_pos h]
    · simp only [pickScore, if_neg h, weight_bot, zero_mul, Finset.sum_const_zero]
  · by_cases h : Chosen (gate q K) n b
    · simp only [pastScore, if_pos h]
    · simp only [pastScore, if_neg h, weight_bot, zero_mul, Finset.sum_const_zero]

/-- A row of the reference's scores: the picked blocks', then the own block's. -/
def rowScore (q : Fin 128 → ℝ) (K : ℕ → Fin 128 → ℝ) (n r : ℕ) (x : Fin 1024) : EReal :=
  if h : x.val < 768 then pickScore q K n ⟨x.val / 256, by omega⟩ ⟨x.val % 256, by omega⟩
  else ownScore q K n r ⟨x.val - 768, by omega⟩

/-- The rows of values they weigh. -/
def rowValue (q : Fin 128 → ℝ) (K V : ℕ → Fin 128 → ℝ) (n : ℕ) (d : Fin 128) (x : Fin 1024) : ℝ :=
  if h : x.val < 768 then V (256 * pick (gate q K) n ⟨x.val / 256, by omega⟩ + x.val % 256) d
  else V (256 * n + (x.val - 768)) d

theorem rowScore_ne_top (q : Fin 128 → ℝ) (K : ℕ → Fin 128 → ℝ) (n r : ℕ) (x : Fin 1024) : rowScore q K n r x ≠ ⊤ := by
  unfold rowScore; split
  · exact pickScore_ne_top _ _ _ _ _
  · exact ownScore_ne_top _ _ _ _ _

section Parts

variable (q : Fin 128 → ℝ) (K V : ℕ → Fin 128 → ℝ) (n r : ℕ)

theorem rowScore_pick (j : Fin 3) (i : Fin 256) : rowScore q K n r ⟨256 * j.val + i.val, by omega⟩ = pickScore q K n j i := by
  rw [rowScore, dif_pos (show 256 * j.val + i.val < 768 by omega)]
  congr 1 <;> refine Fin.ext ?_
  · show (256 * j.val + i.val) / 256 = j.val; omega
  · show (256 * j.val + i.val) % 256 = i.val; omega

theorem rowScore_own (i : Fin 256) : rowScore q K n r ⟨768 + i.val, by omega⟩ = ownScore q K n r i := by
  rw [rowScore, dif_neg (show ¬ 768 + i.val < 768 by omega)]
  congr 1; refine Fin.ext ?_
  show 768 + i.val - 768 = i.val; omega

theorem rowValue_pick (d : Fin 128) (j : Fin 3) (i : Fin 256) :
    rowValue q K V n d ⟨256 * j.val + i.val, by omega⟩ = V (256 * pick (gate q K) n j + i.val) d := by
  rw [rowValue, dif_pos (show 256 * j.val + i.val < 768 by omega)]
  have e : (⟨(256 * j.val + i.val) / 256, by omega⟩ : Fin 3) = j := Fin.ext (show (256 * j.val + i.val) / 256 = j.val by omega)
  have e' : (256 * j.val + i.val) % 256 = i.val := by omega
  show V (256 * pick (gate q K) n ⟨(256 * j.val + i.val) / 256, _⟩ + (256 * j.val + i.val) % 256) d = _
  rw [e, e']

theorem rowValue_own (d : Fin 128) (i : Fin 256) : rowValue q K V n d ⟨768 + i.val, by omega⟩ = V (256 * n + i.val) d := by
  rw [rowValue, dif_neg (show ¬ 768 + i.val < 768 by omega)]
  have e : 768 + i.val - 768 = i.val := by omega
  show V (256 * n + (768 + i.val - 768)) d = _
  rw [e]

/-- The greatest score is a real number. -/
theorem row_max : IsReal (Finset.univ.fold max ⊥ (rowScore q K n r)) := by
  refine fold_max_real _ _ (fun x _ => rowScore_ne_top q K n r x) ⟨768, by omega⟩ (Finset.mem_univ _) ?_
  have e := rowScore_own q K n r 0
  rw [show (⟨768 + (0 : Fin 256).val, by omega⟩ : Fin 1024) = ⟨768, by omega⟩ from rfl] at e
  rw [e, ownScore, if_pos (show (0 : Fin 256).val ≤ r from Nat.zero_le _)]
  exact EReal.coe_ne_bot _

theorem row_weights (hn : n ≤ 16) : ∑ x, weight (rowScore q K n r x) = weights q K n r n := by
  have h := picked_weights q K n hn (fun _ _ => 1)
  simp only [mul_one] at h
  rw [sum_parts]
  simp only [rowScore_pick, rowScore_own]
  rw [h, add_comm, weights]

theorem row_weighted (hn : n ≤ 16) (d : Fin 128) :
    ∑ x, weight (rowScore q K n r x) * rowValue q K V n d x = weighted q K V n r n d := by
  have h := picked_weights q K n hn (fun b i => V (256 * b + i.val) d)
  rw [sum_parts]
  simp only [rowScore_pick, rowScore_own, rowValue_pick, rowValue_own]
  rw [h, add_comm, weighted]

/-- The softmax of a row of scores over the rows of values. -/
theorem row_softmax (hn : n ≤ 16) (d : Fin 128) (M : EReal) (hM : M = Finset.univ.fold max ⊥ (rowScore q K n r)) :
    ∑ j : Fin 3, ∑ i : Fin 256, Ideal.div (Ideal.exp (rowScore q K n r ⟨256 * j.val + i.val, by omega⟩ - M))
          (∑ x, Ideal.exp (rowScore q K n r x - M)) * (V (256 * pick (gate q K) n j + i.val) d : EReal)
      + ∑ i : Fin 256, Ideal.div (Ideal.exp (rowScore q K n r ⟨768 + i.val, by omega⟩ - M))
          (∑ x, Ideal.exp (rowScore q K n r x - M)) * (V (256 * n + i.val) d : EReal)
      = (attend q K V n r d : EReal) := by
  subst hM
  have h := softmax_sum (rowScore q K n r) (rowScore_ne_top q K n r) _ (row_max q K n r) (rowValue q K V n d)
    (by rw [row_weights q K n r hn]; exact (weights_pos q K n r n).ne')
  rw [row_weights q K n r hn, row_weighted q K V n r hn, sum_parts] at h
  simp only [rowValue_pick, rowValue_own] at h
  exact h

end Parts

end AttnRows
-- ==== Proof.AttnRef.lean ====
/- The attention reference's result at an index, in exact arithmetic, for real arguments. -/
module

public import proofs.«01_k».proof.Proof.AttnPick
public import proofs.«01_k».proof.Proof.Gen.AttnRefIdeal.Run
public import Idealize.ShloMosaic.Lib.Pointwise

@[expose] public section

set_option maxRecDepth 16384

noncomputable section

open Idealize.ShloMosaic Idealize.ShloMosaic.TcCoe Idealize.SL.Sem

namespace AttnRows

open Cert.AttnRefIdeal Cert.AttnRefIdeal.Gen Cert.AttnRefIdeal.Value
open Patterns (IsReal)

/-- Row `s`, lane `d` of one of the three operands of head `n` (eight heads to a batch): the columns from `o`. -/
def head (A : FVec Ideal S16384x7168 .bf16) (o n s : ℕ) (d : Fin 128) : ℝ :=
  (A (ix2 ⟨(4096 * (n / 8) + s) % 16384, by omega⟩ ⟨(o + 128 * (n % 8) + d.val) % 7168, by omega⟩)).toReal

theorem head_eq (A : FVec Ideal S16384x7168 .bf16) (hA : ∀ r k, IsReal (A (ix2 r k))) (o n s : ℕ) (d : Fin 128) (r : Fin 16384) (k : Fin 7168)
    (hr : r.val = 4096 * (n / 8) + s) (hk : k.val = o + 128 * (n % 8) + d.val) : A (ix2 r k) = (head A o n s d : EReal) := by
  have e1 : (⟨(4096 * (n / 8) + s) % 16384, by omega⟩ : Fin 16384) = r := Fin.ext (by show (4096 * (n / 8) + s) % 16384 = r.val; omega)
  have e2 : (⟨(o + 128 * (n % 8) + d.val) % 7168, by omega⟩ : Fin 7168) = k := Fin.ext (by show (o + 128 * (n % 8) + d.val) % 7168 = k.val; omega)
  rw [head, e1, e2]
  obtain ⟨y, hy⟩ := hA r k
  rw [hy, EReal.toReal_coe]

section Stages

variable (A : FVec Ideal S16384x7168 .bf16)

def projArr : FVec Ideal S4x4096x7168 .f32 := shapeCast _ (extf .f32 A bitsLt_bf16_f32) shapeCasts_S16384x7168_S4x4096x7168

def queryArr : FVec Ideal S32x4096x128 .f32 :=
  shapeCast _ (transpose S4x8x4096x128 [0, 2, 1, 3] (shapeCast _ (extractStridedSlice S4x4096x1024 ![0, 0, 2048] (projArr A) slices_S4x4096x7168_S4x4096x1024_0_0_2048) shapeCasts_S4x4096x1024_S4x4096x8x128) transposes_S4x4096x8x128_S4x8x4096x128_0_2_1_3) shapeCasts_S4x8x4096x128_S32x4096x128

def keyArr : FVec Ideal S32x16x256x128 .f32 :=
  shapeCast _ (shapeCast _ (transpose S4x8x4096x128 [0, 2, 1, 3] (shapeCast _ (extractStridedSlice S4x4096x1024 ![0, 0, 3072] (projArr A) slices_S4x4096x7168_S4x4096x1024_0_0_3072) shapeCasts_S4x4096x1024_S4x4096x8x128) transposes_S4x4096x8x128_S4x8x4096x128_0_2_1_3) shapeCasts_S4x8x4096x128_S32x4096x128 : FVec Ideal S32x4096x128 .f32) shapeCasts_S32x4096x128_S32x16x256x128

def valueArr : FVec Ideal S32x16x256x128 .f32 :=
  shapeCast _ (shapeCast _ (transpose S4x8x4096x128 [0, 2, 1, 3] (shapeCast _ (extractStridedSlice S4x4096x1024 ![0, 0, 4096] (projArr A) slices_S4x4096x7168_S4x4096x1024_0_0_4096) shapeCasts_S4x4096x1024_S4x4096x8x128) transposes_S4x4096x8x128_S4x8x4096x128_0_2_1_3) shapeCasts_S4x8x4096x128_S32x4096x128 : FVec Ideal S32x4096x128 .f32) shapeCasts_S32x4096x128_S32x16x256x128

variable (hA : ∀ r k, IsReal (A (ix2 r k)))
include hA

theorem queryArr_at (n : Fin 32) (s : Fin 4096) (d : Fin 128) : queryArr A (ix3 n s d) = (head A 2048 n.val s.val d : EReal) := by
  pointwise [queryArr, projArr]
  exact head_eq A hA _ _ _ _ _ _ (by simp; try omega) (by simp; try omega)

theorem keyArr_at (n : Fin 32) (b : Fin 16) (i : Fin 256) (d : Fin 128) :
    keyArr A (ix4 n b i d) = (head A 3072 n.val (256 * b.val + i.val) d : EReal) := by
  pointwise [keyArr, projArr]
  exact head_eq A hA _ _ _ _ _ _ (by simp; try omega) (by simp; try omega)

theorem valueArr_at (n : Fin 32) (b : Fin 16) (i : Fin 256) (d : Fin 128) :
    valueArr A (ix4 n b i d) = (head A 4096 n.val (256 * b.val + i.val) d : EReal) := by
  pointwise [valueArr, projArr]
  exact head_eq A hA _ _ _ _ _ _ (by simp; try omega) (by simp; try omega)

end Stages

def rowNumbers : IVec S4096 32 := iotaInDim S4096 32 0
def blockSize : IVec S_ 32 := id (constantI S_ 32 256#32)
def quotients : IVec S4096 32 := Host.divsi rowNumbers (broadcastInDim S4096 ![] bcast_S_S4096 blockSize)

/-- The block of each row. -/
def blockNumbers : IVec S4096 32 :=
  select (andi (cmpi .ne (signi rowNumbers) (broadcastInDim S4096 ![] bcast_S_S4096 (signi blockSize))) (cmpi .ne (Host.remsi rowNumbers (broadcastInDim S4096 ![] bcast_S_S4096 blockSize)) (broadcastInDim S4096 ![] bcast_S_S4096 (constantI S_ 32 0#32)))) (subi quotients (broadcastInDim S4096 ![] bcast_S_S4096 (constantI S_ 32 1#32))) quotients

/-- The words of a row's number divided by the size of a block, rounded down. -/
theorem block_word : ∀ s : Fin 4096, Scalar.select
      (IntOp.andi
        (IntOp.cmpi CmpIPredicate.ne
          (if BitVec.ofNat 32 s.val = 0 then 0 else if (BitVec.ofNat 32 s.val).msb = true then -1 else 1)
          (if (256#32) = 0 then (0 : BitVec 32) else if (256#32).msb = true then -1 else 1))
        (IntOp.cmpi CmpIPredicate.ne (IntOp.remsi ArithUnit.host (BitVec.ofNat 32 s.val) (256#32)) 0#32))
      (IntOp.subi (IntOp.divsi ArithUnit.host (BitVec.ofNat 32 s.val) (256#32)) 1#32)
      (IntOp.divsi ArithUnit.host (BitVec.ofNat 32 s.val) (256#32)) = BitVec.ofNat 32 (s.val / 256) := by
  decide +kernel

theorem blockNumbers_at (s : Fin 4096) : blockNumbers (ix1 s) = BitVec.ofNat 32 (s.val / 256) := by
  pointwise [blockNumbers, quotients, blockSize, rowNumbers]
  exact block_word s

theorem word_slt {a b : ℕ} (ha : a < 16) (hb : b < 16) :
    IntOp.cmpi CmpIPredicate.slt (BitVec.ofNat 32 a) (BitVec.ofNat 32 b) = BitVec.ofBool (decide (a < b)) :=
  (by decide +kernel : ∀ a b : Fin 16, IntOp.cmpi CmpIPredicate.slt (BitVec.ofNat 32 a.val) (BitVec.ofNat 32 b.val)
    = BitVec.ofBool (decide (a.val < b.val))) ⟨a, ha⟩ ⟨b, hb⟩

/-- A position that is not negative is read as it is. -/
theorem wrapped {p : ℕ} (hp : p < 16) :
    Scalar.select (IntOp.cmpi CmpIPredicate.slt (BitVec.ofNat 32 p) 0#32) (IntOp.addi (BitVec.ofNat 32 p) 16#32) (BitVec.ofNat 32 p) = BitVec.ofNat 32 p :=
  (by decide +kernel : ∀ p : Fin 16, Scalar.select (IntOp.cmpi CmpIPredicate.slt (BitVec.ofNat 32 p.val) 0#32)
    (IntOp.addi (BitVec.ofNat 32 p.val) 16#32) (BitVec.ofNat 32 p.val) = BitVec.ofNat 32 p.val) ⟨p, hp⟩

theorem small_start {p : ℕ} (hp : p < 16) : min (BitVec.ofNat 32 p).toInt.toNat 15 = p :=
  (by decide +kernel : ∀ p : Fin 16, min (BitVec.ofNat 32 p.val).toInt.toNat 15 = p.val) ⟨p, hp⟩

/-- The positions a top-k gives: where the slice reads the sorted positions. -/
theorem topK_positions {α : Type} {s : Shape} (t : Shape) (d : ℕ) (hd : d < s.rank) (gt : α → α → BitVec 1) (x : s.Idx → α)
    (h : s.Slices (fun _ => 0) t) (j : t.Idx) (e : s.Idx) (he : ∀ y : IVec s 32, extractStridedSlice t (fun _ => 0) y h j = y e) :
    (Host.topK t d gt x h).2 j
      = BitVec.ofNat 32 (sortedFrom (fun a b => gt (x (e.along ⟨d, hd⟩ a)) (x (e.along ⟨d, hd⟩ b)) == 1#1) (e ⟨d, hd⟩)).val := by
  unfold Host.topK
  refine (he _).trans ?_
  unfold Host.sort2
  rw [dif_pos hd]
  refine (dif_pos hd).trans ?_
  exact congrArg (fun q : Fin (s.size ⟨d, hd⟩) => BitVec.ofNat 32 q.val) (Function.update_self _ _ _)

theorem front_at (y : IVec S32x4096x16 32) (n : Fin 32) (s : Fin 4096) (j : Fin 3) :
    extractStridedSlice S32x4096x3 (fun _ => 0) y sliceFits_S32x4096x16_S32x4096x3 (ix3 n s j) = y (ix3 n s ⟨j.val, by omega⟩) := by
  refine congrArg y (funext fun a => Fin.ext ?_)
  match a with
  | ⟨0, _⟩ => exact Nat.zero_add _
  | ⟨1, _⟩ => exact Nat.zero_add _
  | ⟨2, _⟩ => exact Nat.zero_add _

theorem along_row (n : Fin 32) (s : Fin 4096) (k k' : Fin 16) :
    Shape.Idx.along (s := S32x4096x16) (ix3 n s k) (2 : Fin 3) k' = ix3 n s k' := by
  funext a
  match a with
  | ⟨0, _⟩ => rfl
  | ⟨1, _⟩ => rfl
  | ⟨2, _⟩ => rfl

/-- The positions of the three greatest entries of a row, the earlier of equal ones first. -/
theorem topK_at (x : FVec Ideal S32x4096x16 .f32) (n : Fin 32) (s : Fin 4096) (j : Fin 3) (f : ℕ → EReal)
    (hf : ∀ b : Fin 16, x (ix3 n s b) = f b.val) :
    (Host.topK S32x4096x3 2 (FloatOps.cmpfTotal .gt) x sliceFits_S32x4096x16_S32x4096x3).2 (ix3 n s j)
      = BitVec.ofNat 32 (sortedFrom (above f 16) ⟨j.val, by omega⟩).val := by
  refine (topK_positions S32x4096x3 2 (by decide) _ x _ _ _ fun y => front_at y n s j).trans ?_
  have c : (fun a b : Fin 16 => FloatOps.cmpfTotal (F := Ideal) .gt (x (Shape.Idx.along (s := S32x4096x16) (ix3 n s ⟨j.val, by omega⟩) (2 : Fin 3) a))
      (x (Shape.Idx.along (s := S32x4096x16) (ix3 n s ⟨j.val, by omega⟩) (2 : Fin 3) b)) == 1#1) = above f 16 := by
    funext a b
    rw [along_row, along_row, hf, hf]
    show (BitVec.ofBool (decide (f b.val < f a.val)) == 1#1) = decide (f b.val < f a.val)
    by_cases h : f b.val < f a.val
    · rw [decide_eq_true h]; rfl
    · rw [decide_eq_false h]; rfl
  exact congrArg (fun r : Fin 16 → Fin 16 → Bool => BitVec.ofNat 32 (sortedFrom r ⟨j.val, by omega⟩).val) c

/-- A block read at a position in range, by the picked positions … -/
theorem gather_pick (x : FVec Ideal S32x16x256x128 .f32) (idx : IVec S32x4096x3x1 32) (n : Fin 32) (s : Fin 4096) (j : Fin 3) (i : Fin 256) (d : Fin 128)
    (p : ℕ) (hp : p < 16) (h : idx (ix4 n s j 0) = BitVec.ofNat 32 p) :
    Host.gather gather_S32x16x256x128_S32x4096x3x1_S32x4096x3x256x128_34_1_0_0_1_3_11256128 x idx (ix5 n s j i d) = x (ix4 n ⟨p, hp⟩ i d) := by
  have e : (gather_S32x16x256x128_S32x4096x3x1_S32x4096x3x256x128_34_1_0_0_1_3_11256128).siIdx (ix5 n s j i d) (0 : Fin 1) = ix4 n s j 0 := by
    funext b
    refine Fin.ext ?_
    match b with
    | ⟨0, _⟩ => rfl
    | ⟨1, _⟩ => rfl
    | ⟨2, _⟩ => rfl
    | ⟨3, _⟩ => rfl
  have c0 : (gather_S32x16x256x128_S32x4096x3x1_S32x4096x3x256x128_34_1_0_0_1_3_11256128).start (ix5 n s j i d) idx (0 : Fin 4) + (gather_S32x16x256x128_S32x4096x3x1_S32x4096x3x256x128_34_1_0_0_1_3_11256128).batchCoord (ix5 n s j i d) (0 : Fin 4) + (gather_S32x16x256x128_S32x4096x3x1_S32x4096x3x256x128_34_1_0_0_1_3_11256128).offCoord (ix5 n s j i d) (0 : Fin 4) = n.val := by
    rw [GatherDims.start_batching _ _ _ _ (by decide), GatherDims.offCoord_eq_zero _ _ _ (by decide), Nat.zero_add, Nat.add_zero]
    rfl
  have c1 : (gather_S32x16x256x128_S32x4096x3x1_S32x4096x3x256x128_34_1_0_0_1_3_11256128).start (ix5 n s j i d) idx (1 : Fin 4) + (gather_S32x16x256x128_S32x4096x3x1_S32x4096x3x256x128_34_1_0_0_1_3_11256128).batchCoord (ix5 n s j i d) (1 : Fin 4) + (gather_S32x16x256x128_S32x4096x3x1_S32x4096x3x256x128_34_1_0_0_1_3_11256128).offCoord (ix5 n s j i d) (1 : Fin 4) = p := by
    rw [GatherDims.batchCoord_eq_zero _ _ _ (by decide), GatherDims.offCoord_eq_zero _ _ _ (by decide), Nat.add_zero]
    unfold GatherDims.start
    rw [dif_pos (by decide)]
    refine (congrArg (fun w : BitVec 32 => min w.toInt.toNat 15) ((congrArg idx e).trans h)).trans (small_start hp)
  have c2 : (gather_S32x16x256x128_S32x4096x3x1_S32x4096x3x256x128_34_1_0_0_1_3_11256128).start (ix5 n s j i d) idx (2 : Fin 4) + (gather_S32x16x256x128_S32x4096x3x1_S32x4096x3x256x128_34_1_0_0_1_3_11256128).batchCoord (ix5 n s j i d) (2 : Fin 4) + (gather_S32x16x256x128_S32x4096x3x1_S32x4096x3x256x128_34_1_0_0_1_3_11256128).offCoord (ix5 n s j i d) (2 : Fin 4) = i.val := by
    rw [GatherDims.batchCoord_eq_zero _ _ _ (by decide), Nat.add_zero]
    unfold GatherDims.start
    rw [dif_neg (by decide), Nat.zero_add]
    rfl
  have c3 : (gather_S32x16x256x128_S32x4096x3x1_S32x4096x3x256x128_34_1_0_0_1_3_11256128).start (ix5 n s j i d) idx (3 : Fin 4) + (gather_S32x16x256x128_S32x4096x3x1_S32x4096x3x256x128_34_1_0_0_1_3_11256128).batchCoord (ix5 n s j i d) (3 : Fin 4) + (gather_S32x16x256x128_S32x4096x3x1_S32x4096x3x256x128_34_1_0_0_1_3_11256128).offCoord (ix5 n s j i d) (3 : Fin 4) = d.val := by
    rw [GatherDims.batchCoord_eq_zero _ _ _ (by decide), Nat.add_zero]
    unfold GatherDims.start
    rw [dif_neg (by decide), Nat.zero_add]
    rfl
  unfold Host.gather
  refine congrArg x (funext fun a => Fin.ext ?_)
  match a with
  | ⟨0, _⟩ => exact c0
  | ⟨1, _⟩ => exact c1
  | ⟨2, _⟩ => exact c2
  | ⟨3, _⟩ => exact c3

/-- … and by the rows' own. -/
theorem gather_own (x : FVec Ideal S32x16x256x128 .f32) (idx : IVec S4096x1 32) (n : Fin 32) (s : Fin 4096) (i : Fin 256) (d : Fin 128)
    (p : ℕ) (hp : p < 16) (h : idx (ix2 s 0) = BitVec.ofNat 32 p) :
    Host.gather gather_S32x16x256x128_S4096x1_S32x4096x256x128_023_1_n_n_1_1_321256128 x idx (ix4 n s i d) = x (ix4 n ⟨p, hp⟩ i d) := by
  have e : (gather_S32x16x256x128_S4096x1_S32x4096x256x128_023_1_n_n_1_1_321256128).siIdx (ix4 n s i d) (0 : Fin 1) = ix2 s 0 := by
    funext b
    refine Fin.ext ?_
    match b with
    | ⟨0, _⟩ => rfl
    | ⟨1, _⟩ => rfl
  have c0 : (gather_S32x16x256x128_S4096x1_S32x4096x256x128_023_1_n_n_1_1_321256128).start (ix4 n s i d) idx (0 : Fin 4) + (gather_S32x16x256x128_S4096x1_S32x4096x256x128_023_1_n_n_1_1_321256128).batchCoord (ix4 n s i d) (0 : Fin 4) + (gather_S32x16x256x128_S4096x1_S32x4096x256x128_023_1_n_n_1_1_321256128).offCoord (ix4 n s i d) (0 : Fin 4) = n.val := by
    rw [GatherDims.batchCoord_eq_zero _ _ _ (by decide), Nat.add_zero]
    unfold GatherDims.start
    rw [dif_neg (by decide), Nat.zero_add]
    rfl
  have c1 : (gather_S32x16x256x128_S4096x1_S32x4096x256x128_023_1_n_n_1_1_321256128).start (ix4 n s i d) idx (1 : Fin 4) + (gather_S32x16x256x128_S4096x1_S32x4096x256x128_023_1_n_n_1_1_321256128).batchCoord (ix4 n s i d) (1 : Fin 4) + (gather_S32x16x256x128_S4096x1_S32x4096x256x128_023_1_n_n_1_1_321256128).offCoord (ix4 n s i d) (1 : Fin 4) = p := by
    rw [GatherDims.batchCoord_eq_zero _ _ _ (by decide), GatherDims.offCoord_eq_zero _ _ _ (by decide), Nat.add_zero]
    unfold GatherDims.start
    rw [dif_pos (by decide)]
    refine (congrArg (fun w : BitVec 32 => min w.toInt.toNat 15) ((congrArg idx e).trans h)).trans (small_start hp)
  have c2 : (gather_S32x16x256x128_S4096x1_S32x4096x256x128_023_1_n_n_1_1_321256128).start (ix4 n s i d) idx (2 : Fin 4) + (gather_S32x16x256x128_S4096x1_S32x4096x256x128_023_1_n_n_1_1_321256128).batchCoord (ix4 n s i d) (2 : Fin 4) + (gather_S32x16x256x128_S4096x1_S32x4096x256x128_023_1_n_n_1_1_321256128).offCoord (ix4 n s i d) (2 : Fin 4) = i.val := by
    rw [GatherDims.batchCoord_eq_zero _ _ _ (by decide), Nat.add_zero]
    unfold GatherDims.start
    rw [dif_neg (by decide), Nat.zero_add]
    rfl
  have c3 : (gather_S32x16x256x128_S4096x1_S32x4096x256x128_023_1_n_n_1_1_321256128).start (ix4 n s i d) idx (3 : Fin 4) + (gather_S32x16x256x128_S4096x1_S32x4096x256x128_023_1_n_n_1_1_321256128).batchCoord (ix4 n s i d) (3 : Fin 4) + (gather_S32x16x256x128_S4096x1_S32x4096x256x128_023_1_n_n_1_1_321256128).offCoord (ix4 n s i d) (3 : Fin 4) = d.val := by
    rw [GatherDims.batchCoord_eq_zero _ _ _ (by decide), Nat.add_zero]
    unfold GatherDims.start
    rw [dif_neg (by decide), Nat.zero_add]
    rfl
  unfold Host.gather
  refine congrArg x (funext fun a => Fin.ext ?_)
  match a with
  | ⟨0, _⟩ => exact c0
  | ⟨1, _⟩ => exact c1
  | ⟨2, _⟩ => exact c2
  | ⟨3, _⟩ => exact c3

section Scores

variable (A : FVec Ideal S16384x7168 .bf16)

def meanArr : FVec Ideal S32x16x128 .f32 :=
  Host.divf (Host.reduceAdd (keyArr A) (constant S_ .f32 0x00000000#32) reducesTo_S32x16x256x128_S32x16x128_d2 h_S_) (broadcastInDim S32x16x128 ![] bcast_S_S32x16x128 (constant S_ .f32 0x43800000#32))

/-- The gates, minus infinity from the own block on. -/
def gateArr : FVec Ideal S32x4096x16 .f32 :=
  select (broadcastInDim S32x4096x16 ![0, 1, 2] bcast_S1x4096x16_S32x4096x16_0_1_2 (broadcastInDim S1x4096x16 ![1, 2] bcast_S4096x16_S1x4096x16_1_2 (cmpi .slt (broadcastInDim S4096x16 ![0, 1] bcast_S1x16_S4096x16_0_1 (broadcastInDim S1x16 ![1] bcast_S16_S1x16_1 (iotaInDim S16 32 0))) (broadcastInDim S4096x16 ![0, 1] bcast_S4096x1_S4096x16_0_1 (broadcastInDim S4096x1 ![0] bcast_S4096_S4096x1_0 blockNumbers))))) (Host.dotGeneral dot_S32x4096x128_S32x16x128_S32x4096x16_2_2_1_1_0_0 none (queryArr A) (meanArr A)) (broadcastInDim S32x4096x16 ![] bcast_S_S32x4096x16 (id (constant S_ .f32 0xFF800000#32)))

/-- The blocks picked. -/
def pickArr : IVec S32x4096x3 32 :=
  (Host.topK S32x4096x3 2 (FloatOps.cmpfTotal .gt) (gateArr A) sliceFits_S32x4096x16_S32x4096x3).2

def pickPos : IVec S32x4096x3x1 32 :=
  broadcastInDim S32x4096x3x1 ![0, 1, 2] bcast_S32x4096x3_S32x4096x3x1_0_1_2 (select (cmpi .slt (pickArr A) (broadcastInDim S32x4096x3 ![] bcast_S_S32x4096x3 (constantI S_ 32 0#32))) (addi (pickArr A) (broadcastInDim S32x4096x3 ![] bcast_S_S32x4096x3 (constantI S_ 32 16#32))) (pickArr A))

def ownPos : IVec S4096x1 32 :=
  broadcastInDim S4096x1 ![0] bcast_S4096_S4096x1_0 (select (cmpi .slt blockNumbers (broadcastInDim S4096 ![] bcast_S_S4096 (constantI S_ 32 0#32))) (addi blockNumbers (broadcastInDim S4096 ![] bcast_S_S4096 (constantI S_ 32 16#32))) blockNumbers)

/-- The picked blocks of the keys (or the values), and the own block. -/
def pickedOf (x : FVec Ideal S32x16x256x128 .f32) : FVec Ideal S32x4096x3x256x128 .f32 :=
  Host.gather gather_S32x16x256x128_S32x4096x3x1_S32x4096x3x256x128_34_1_0_0_1_3_11256128 x (pickPos A)

def ownOfArr (x : FVec Ideal S32x16x256x128 .f32) : FVec Ideal S32x4096x256x128 .f32 :=
  Host.gather gather_S32x16x256x128_S4096x1_S32x4096x256x128_023_1_n_n_1_1_321256128 x ownPos

variable (hA : ∀ r k, IsReal (A (ix2 r k)))
include hA

/-- A row's queries, keys and values. -/
abbrev rowQ (n : Fin 32) (s : Fin 4096) : Fin 128 → ℝ := head A 2048 n.val s.val
abbrev rowsK (n : Fin 32) : ℕ → Fin 128 → ℝ := head A 3072 n.val
abbrev rowsV (n : Fin 32) : ℕ → Fin 128 → ℝ := head A 4096 n.val

theorem meanArr_at (n : Fin 32) (b : Fin 16) (d : Fin 128) : meanArr A (ix3 n b d) = (meanKey (rowsK A n) b.val d : EReal) := by
  pointwise [meanArr, keyArr_at A hA]
  rw [Patterns.two_fifty_six, ← coe_sum, Ideal.div_coe (by norm_num), ← EReal.coe_mul]
  rfl

theorem gateArr_at (n : Fin 32) (s : Fin 4096) (b : Fin 16) :
    gateArr A (ix3 n s b) = lifted (gate (rowQ A n s) (rowsK A n)) (s.val / 256) b.val := by
  pointwise [gateArr, blockNumbers_at, meanArr_at A hA, queryArr_at A hA]
  rw [show IntOp.cmpi CmpIPredicate.slt (BitVec.ofNat 32 b.val) (BitVec.ofNat 32 (s.val / 256)) = BitVec.ofBool (decide (b.val < s.val / 256)) from
    word_slt (by omega) (by omega), WordCmp.select_decide]
  refine ite_congr rfl (fun _ => dot_coe _ _) fun _ => ?_
  exact Patterns.minus_infinity

theorem pickArr_at (n : Fin 32) (s : Fin 4096) (j : Fin 3) :
    pickArr A (ix3 n s j) = BitVec.ofNat 32 (pick (gate (rowQ A n s) (rowsK A n)) (s.val / 256) j) :=
  topK_at (gateArr A) n s j _ (gateArr_at A hA n s)

theorem pickPos_at (n : Fin 32) (s : Fin 4096) (j : Fin 3) :
    pickPos A (ix4 n s j 0) = BitVec.ofNat 32 (pick (gate (rowQ A n s) (rowsK A n)) (s.val / 256) j) := by
  pointwise [pickPos, pickArr_at A hA]
  exact wrapped (pick_lt _ _ _)

theorem ownPos_at (s : Fin 4096) : ownPos (ix2 s 0) = BitVec.ofNat 32 (s.val / 256) := by
  pointwise [ownPos, blockNumbers_at]
  exact wrapped (by omega)

theorem pickedOf_at (x : FVec Ideal S32x16x256x128 .f32) (n : Fin 32) (s : Fin 4096) (j : Fin 3) (i : Fin 256) (d : Fin 128) :
    pickedOf A x (ix5 n s j i d) = x (ix4 n ⟨pick (gate (rowQ A n s) (rowsK A n)) (s.val / 256) j, pick_lt _ _ _⟩ i d) :=
  gather_pick x _ n s j i d _ _ (pickPos_at A hA n s j)

theorem ownOfArr_at (x : FVec Ideal S32x16x256x128 .f32) (n : Fin 32) (s : Fin 4096) (i : Fin 256) (d : Fin 128) :
    ownOfArr x (ix4 n s i d) = x (ix4 n ⟨s.val / 256, by omega⟩ i d) :=
  gather_own x _ n s i d _ _ (ownPos_at A hA s)

end Scores

/-- A key of the own block up to the row itself. -/
theorem word_sle (s : Fin 4096) (i : Fin 256) :
    IntOp.cmpi CmpIPredicate.sle (IntOp.addi (IntOp.muli (BitVec.ofNat 32 (s.val / 256)) 256#32) (BitVec.ofNat 32 i.val)) (BitVec.ofNat 32 s.val)
      = BitVec.ofBool (decide (i.val ≤ s.val % 256)) := by
  have e : IntOp.addi (IntOp.muli (BitVec.ofNat 32 (s.val / 256)) 256#32) (BitVec.ofNat 32 i.val) = BitVec.ofNat 32 (s.val / 256 * 256 + i.val) := by
    show BitVec.ofNat 32 (s.val / 256) * BitVec.ofNat 32 256 + BitVec.ofNat 32 i.val = _
    rw [← BitVec.ofNat_mul, ← BitVec.ofNat_add]
  rw [e, WordCmp.cmpi_sle_ofNat (by omega) (by omega)]
  exact congrArg BitVec.ofBool (decide_eq_decide.2 (by omega))

section Weights

variable (A : FVec Ideal S16384x7168 .bf16)

/-- The scores against the picked blocks … -/
def pastArr : FVec Ideal S32x4096x3x256 .f32 :=
  select (broadcastInDim S32x4096x3x256 ![0, 1, 2, 3] bcast_S32x4096x3x1_S32x4096x3x256_0_1_2_3 (broadcastInDim S32x4096x3x1 ![0, 1, 2] bcast_S32x4096x3_S32x4096x3x1_0_1_2 (cmpi .slt (pickArr A) (broadcastInDim S32x4096x3 ![0, 1, 2] bcast_S1x4096x1_S32x4096x3_0_1_2 (broadcastInDim S1x4096x1 ![1] bcast_S4096_S1x4096x1_1 blockNumbers))))) (Host.dotGeneral dot_S32x4096x128_S32x4096x3x256x128_S32x4096x3x256_2_4_n_23_01_01 none (queryArr A) (pickedOf A (keyArr A))) (broadcastInDim S32x4096x3x256 ![] bcast_S_S32x4096x3x256 (id (constant S_ .f32 0xFF800000#32)))

/-- … and against the own one, minus infinity past the row itself. -/
def ownArr : FVec Ideal S32x4096x256 .f32 :=
  select (broadcastInDim S32x4096x256 ![0, 1, 2] bcast_S1x4096x256_S32x4096x256_0_1_2 (broadcastInDim S1x4096x256 ![1, 2] bcast_S4096x256_S1x4096x256_1_2 (cmpi .sle (addi (broadcastInDim S4096x256 ![0, 1] bcast_S4096x1_S4096x256_0_1 (muli (broadcastInDim S4096x1 ![0] bcast_S4096_S4096x1_0 blockNumbers) (broadcastInDim S4096x1 ![] bcast_S_S4096x1 (constantI S_ 32 256#32)))) (broadcastInDim S4096x256 ![0, 1] bcast_S1x256_S4096x256_0_1 (broadcastInDim S1x256 ![1] bcast_S256_S1x256_1 (iotaInDim S256 32 0)))) (broadcastInDim S4096x256 ![0, 1] bcast_S4096x1_S4096x256_0_1 (broadcastInDim S4096x1 ![0] bcast_S4096_S4096x1_0 rowNumbers))))) (Host.dotGeneral dot_S32x4096x128_S32x4096x256x128_S32x4096x256_2_3_n_2_01_01 none (queryArr A) (ownOfArr (keyArr A))) (broadcastInDim S32x4096x256 ![] bcast_S_S32x4096x256 (id (constant S_ .f32 0xFF800000#32)))

def scoreArr : FVec Ideal S32x4096x1024 .f32 :=
  concatenate S32x4096x1024 2 [⟨S32x4096x768, shapeCast _ (pastArr A) shapeCasts_S32x4096x3x256_S32x4096x768⟩, ⟨S32x4096x256, ownArr A⟩] concatenates_S32x4096x768_S32x4096x256_S32x4096x1024_d2

def maxArr : FVec Ideal S32x4096 .f32 :=
  maximumf (broadcastInDim S32x4096 ![] bcast_S_S32x4096 (constant S_ .f32 0xFF800000#32)) (Host.reduce FloatOps.maximumf (scoreArr A) (constant S_ .f32 0xFF800000#32) reducesTo_S32x4096x1024_S32x4096_d2 h_S_)

def expArr : FVec Ideal S32x4096x1024 .f32 :=
  Host.exp (subf (scoreArr A) (broadcastInDim S32x4096x1024 ![0, 1, 2] bcast_S32x4096x1_S32x4096x1024_0_1_2 (broadcastInDim S32x4096x1 ![0, 1] bcast_S32x4096_S32x4096x1_0_1 (maxArr A))))

def weightArr : FVec Ideal S32x4096x1024 .f32 :=
  Host.divf (expArr A) (broadcastInDim S32x4096x1024 ![0, 1, 2] bcast_S32x4096x1_S32x4096x1024_0_1_2 (broadcastInDim S32x4096x1 ![0, 1] bcast_S32x4096_S32x4096x1_0_1 (Host.reduceAdd (expArr A) (constant S_ .f32 0x00000000#32) reducesTo_S32x4096x1024_S32x4096_d2 h_S_)))

def pickedOut : FVec Ideal S32x4096x128 .f32 :=
  Host.dotGeneral dot_S32x4096x3x256_S32x4096x3x256x128_S32x4096x128_23_23_n_4_01_01 none (shapeCast _ (extractStridedSlice S32x4096x768 ![0, 0, 0] (weightArr A) slices_S32x4096x1024_S32x4096x768_0_0_0) shapeCasts_S32x4096x768_S32x4096x3x256 : FVec Ideal S32x4096x3x256 .f32) (pickedOf A (valueArr A))

def ownOut : FVec Ideal S32x4096x128 .f32 :=
  Host.dotGeneral dot_S32x4096x256_S32x4096x256x128_S32x4096x128_2_2_n_3_01_01 none (extractStridedSlice S32x4096x256 ![0, 0, 768] (weightArr A) slices_S32x4096x1024_S32x4096x256_0_0_768) (ownOfArr (valueArr A))

/-- The reference's result of its argument. -/
def outArr : FVec Ideal S16384x1024 .bf16 :=
  truncf .bf16 (shapeCast _ (transpose S4x4096x8x128 [0, 2, 1, 3] (shapeCast _ (addf (pickedOut A) (ownOut A)) shapeCasts_S32x4096x128_S4x8x4096x128) transposes_S4x8x4096x128_S4x4096x8x128_0_2_1_3) shapeCasts_S4x4096x8x128_S16384x1024 : FVec Ideal S16384x1024 .f32) bitsLt_bf16_f32

variable (hA : ∀ r k, IsReal (A (ix2 r k)))
include hA

theorem pastArr_at (n : Fin 32) (s : Fin 4096) (j : Fin 3) (i : Fin 256) :
    pastArr A (ix4 n s j i) = pickScore (rowQ A n s) (rowsK A n) (s.val / 256) j i := by
  pointwise [pastArr, blockNumbers_at, pickArr_at A hA, queryArr_at A hA, pickedOf_at A hA, keyArr_at A hA]
  rw [word_slt (pick_lt _ _ _) (by omega), WordCmp.select_decide]
  refine ite_congr rfl (fun _ => dot_coe _ _) fun _ => ?_
  exact Patterns.minus_infinity

theorem ownArr_at (n : Fin 32) (s : Fin 4096) (i : Fin 256) :
    ownArr A (ix3 n s i) = ownScore (rowQ A n s) (rowsK A n) (s.val / 256) (s.val % 256) i := by
  pointwise [ownArr, blockNumbers_at, rowNumbers, queryArr_at A hA, ownOfArr_at A hA, keyArr_at A hA]
  rw [word_sle, WordCmp.select_decide]
  refine ite_congr rfl (fun _ => dot_coe _ _) fun _ => ?_
  exact Patterns.minus_infinity

theorem scoreArr_at (n : Fin 32) (s : Fin 4096) (x : Fin 1024) :
    scoreArr A (ix3 n s x) = rowScore (rowQ A n s) (rowsK A n) (s.val / 256) (s.val % 256) x := by
  pointwise [scoreArr, ownArr_at A hA, pastArr_at A hA]
  rw [rowScore]

omit hA in
/-- A fold by the same operation, however it is written. -/
theorem fold_same {ι : Type} (op op' : EReal → EReal → EReal) [Std.Commutative op] [Std.Associative op] [Std.Commutative op'] [Std.Associative op']
    (h : ∀ a b, op a b = op' a b) {b b' : EReal} (hb : b = b') (f : ι → EReal) (u : Finset ι) : u.fold op b f = u.fold op' b' f := by
  obtain rfl : op = op' := funext fun a => funext (h a)
  rw [hb]

omit hA in
theorem row_fold (x : FVec Ideal S32x4096x1024 .f32) (n : Fin 32) (s : Fin 4096) :
    Host.reduce FloatOps.maximumf x (constant S_ .f32 0xFF800000#32) reducesTo_S32x4096x1024_S32x4096_d2 h_S_ (ix2 n s)
      = Finset.univ.fold max ⊥ (fun k => x (ix3 n s k)) := by
  pointwise
  exact fold_same _ _ (fun _ _ => rfl) Patterns.minus_infinity _ _

omit hA in
theorem above_minus_infinity (x : FVec Ideal S32x4096 .f32) (y : EReal) (n : Fin 32) (s : Fin 4096) (h : x (ix2 n s) = y) :
    maximumf (broadcastInDim S32x4096 ![] bcast_S_S32x4096 (constant (F := Ideal) S_ .f32 0xFF800000#32)) x (ix2 n s) = y := by
  pointwise [h]
  rw [Patterns.minus_infinity, max_eq_right bot_le]

omit hA in
theorem spread_at (x : FVec Ideal S32x4096 .f32) (n : Fin 32) (s : Fin 4096) (k : Fin 1024) :
    broadcastInDim S32x4096x1024 ![0, 1, 2] bcast_S32x4096x1_S32x4096x1024_0_1_2 (broadcastInDim S32x4096x1 ![0, 1] bcast_S32x4096_S32x4096x1_0_1 x) (ix3 n s k) = x (ix2 n s) := by
  pointwise

omit hA in
theorem total_at (x : FVec Ideal S32x4096x1024 .f32) (n : Fin 32) (s : Fin 4096) :
    Host.reduceAdd x (constant S_ .f32 0x00000000#32) reducesTo_S32x4096x1024_S32x4096_d2 h_S_ (ix2 n s) = ∑ k, x (ix3 n s k) := by
  pointwise

theorem maxArr_at (n : Fin 32) (s : Fin 4096) :
    maxArr A (ix2 n s) = Finset.univ.fold max ⊥ (rowScore (rowQ A n s) (rowsK A n) (s.val / 256) (s.val % 256)) :=
  above_minus_infinity _ _ n s ((row_fold (scoreArr A) n s).trans
    (congrArg (fun f => Finset.univ.fold max ⊥ f) (funext fun k => scoreArr_at A hA n s k)))

theorem expArr_at (n : Fin 32) (s : Fin 4096) (k : Fin 1024) :
    expArr A (ix3 n s k) = Ideal.exp (rowScore (rowQ A n s) (rowsK A n) (s.val / 256) (s.val % 256) k - maxArr A (ix2 n s)) := by
  refine Eq.trans (show _ = Ideal.exp (scoreArr A (ix3 n s k) - broadcastInDim S32x4096x1024 ![0, 1, 2] bcast_S32x4096x1_S32x4096x1024_0_1_2 (broadcastInDim S32x4096x1 ![0, 1] bcast_S32x4096_S32x4096x1_0_1 (maxArr A)) (ix3 n s k)) from rfl) ?_
  rw [spread_at, scoreArr_at A hA]

theorem weightArr_at (n : Fin 32) (s : Fin 4096) (k : Fin 1024) :
    weightArr A (ix3 n s k)
      = Ideal.div (Ideal.exp (rowScore (rowQ A n s) (rowsK A n) (s.val / 256) (s.val % 256) k - maxArr A (ix2 n s)))
          (∑ x, Ideal.exp (rowScore (rowQ A n s) (rowsK A n) (s.val / 256) (s.val % 256) x - maxArr A (ix2 n s))) := by
  refine Eq.trans (show _ = Ideal.div (expArr A (ix3 n s k)) (broadcastInDim S32x4096x1024 ![0, 1, 2] bcast_S32x4096x1_S32x4096x1024_0_1_2 (broadcastInDim S32x4096x1 ![0, 1] bcast_S32x4096_S32x4096x1_0_1 (Host.reduceAdd (expArr A) (constant S_ .f32 0x00000000#32) reducesTo_S32x4096x1024_S32x4096_d2 h_S_)) (ix3 n s k)) from rfl) ?_
  rw [spread_at, total_at]
  simp only [expArr_at A hA]

omit hA in
theorem picked_dot (w : FVec Ideal S32x4096x1024 .f32) (v : FVec Ideal S32x4096x3x256x128 .f32) (n : Fin 32) (s : Fin 4096) (d : Fin 128) :
    Host.dotGeneral dot_S32x4096x3x256_S32x4096x3x256x128_S32x4096x128_23_23_n_4_01_01 none (shapeCast _ (extractStridedSlice S32x4096x768 ![0, 0, 0] w slices_S32x4096x1024_S32x4096x768_0_0_0) shapeCasts_S32x4096x768_S32x4096x3x256 : FVec Ideal S32x4096x3x256 .f32) v (ix3 n s d)
      = ∑ j : Fin 3, ∑ i : Fin 256, w (ix3 n s ⟨256 * j.val + i.val, by omega⟩) * v (ix5 n s j i d) := by
  pointwise
  refine Finset.sum_congr rfl fun j _ => Finset.sum_congr rfl fun i _ => ?_
  rw [show (⟨j.val * 256 + i.val, by omega⟩ : Fin 1024) = ⟨256 * j.val + i.val, by omega⟩ from Fin.ext (by show j.val * 256 + i.val = 256 * j.val + i.val; omega)]

omit hA in
theorem own_dot (w : FVec Ideal S32x4096x1024 .f32) (v : FVec Ideal S32x4096x256x128 .f32) (n : Fin 32) (s : Fin 4096) (d : Fin 128) :
    Host.dotGeneral dot_S32x4096x256_S32x4096x256x128_S32x4096x128_2_2_n_3_01_01 none (extractStridedSlice S32x4096x256 ![0, 0, 768] w slices_S32x4096x1024_S32x4096x256_0_0_768) v (ix3 n s d)
      = ∑ i : Fin 256, w (ix3 n s ⟨768 + i.val, by omega⟩) * v (ix4 n s i d) := by
  pointwise

theorem pickedOut_at (n : Fin 32) (s : Fin 4096) (d : Fin 128) :
    pickedOut A (ix3 n s d)
      = ∑ j : Fin 3, ∑ i : Fin 256,
          Ideal.div (Ideal.exp (rowScore (rowQ A n s) (rowsK A n) (s.val / 256) (s.val % 256) ⟨256 * j.val + i.val, by omega⟩ - maxArr A (ix2 n s)))
            (∑ x, Ideal.exp (rowScore (rowQ A n s) (rowsK A n) (s.val / 256) (s.val % 256) x - maxArr A (ix2 n s)))
          * (rowsV A n (256 * pick (gate (rowQ A n s) (rowsK A n)) (s.val / 256) j + i.val) d : EReal) := by
  refine (picked_dot (weightArr A) _ n s d).trans ?_
  refine Finset.sum_congr rfl fun j _ => Finset.sum_congr rfl fun i _ => ?_
  rw [weightArr_at A hA, pickedOf_at A hA, valueArr_at A hA]

theorem ownOut_at (n : Fin 32) (s : Fin 4096) (d : Fin 128) :
    ownOut A (ix3 n s d)
      = ∑ i : Fin 256,
          Ideal.div (Ideal.exp (rowScore (rowQ A n s) (rowsK A n) (s.val / 256) (s.val % 256) ⟨768 + i.val, by omega⟩ - maxArr A (ix2 n s)))
            (∑ x, Ideal.exp (rowScore (rowQ A n s) (rowsK A n) (s.val / 256) (s.val % 256) x - maxArr A (ix2 n s)))
          * (rowsV A n (256 * (s.val / 256) + i.val) d : EReal) := by
  refine (own_dot (weightArr A) _ n s d).trans ?_
  refine Finset.sum_congr rfl fun i _ => ?_
  rw [weightArr_at A hA, ownOfArr_at A hA, valueArr_at A hA]

omit hA in
/-- The heads' rows laid side by side. -/
theorem gathered_at (y : FVec Ideal S32x4096x128 .f32) (r : Fin 16384) (k : Fin 1024) :
    truncf .bf16 (shapeCast _ (transpose S4x4096x8x128 [0, 2, 1, 3] (shapeCast _ y shapeCasts_S32x4096x128_S4x8x4096x128) transposes_S4x8x4096x128_S4x4096x8x128_0_2_1_3) shapeCasts_S4x4096x8x128_S16384x1024 : FVec Ideal S16384x1024 .f32) bitsLt_bf16_f32 (ix2 r k)
      = y (ix3 ⟨8 * (r.val / 4096) + k.val / 128, by omega⟩ ⟨r.val % 4096, by omega⟩ ⟨k.val % 128, by omega⟩) := by
  pointwise
  exact congrArg (fun p => y (ix3 p ⟨r.val % 4096, by omega⟩ ⟨k.val % 128, by omega⟩)) (Fin.ext (by show r.val / 4096 * 8 + k.val / 128 = 8 * (r.val / 4096) + k.val / 128; omega))

omit hA in
theorem sum_at (x y : FVec Ideal S32x4096x128 .f32) (i : S32x4096x128.Idx) : addf x y i = (x i : EReal) + y i := rfl

/-- A row of a head's result. -/
theorem headOut_at (n : Fin 32) (s : Fin 4096) (d : Fin 128) :
    addf (pickedOut A) (ownOut A) (ix3 n s d)
      = (attend (rowQ A n s) (rowsK A n) (rowsV A n) (s.val / 256) (s.val % 256) d : EReal) := by
  rw [sum_at, pickedOut_at A hA n s d, ownOut_at A hA n s d]
  exact row_softmax (rowQ A n s) (rowsK A n) (rowsV A n) (s.val / 256) (s.val % 256) (by omega) d _ (maxArr_at A hA n s)

/-- The reference's result at an index. -/
theorem outArr_at (r : Fin 16384) (k : Fin 1024) :
    outArr A (ix2 r k)
      = (attend (head A 2048 (8 * (r.val / 4096) + k.val / 128) (r.val % 4096)) (head A 3072 (8 * (r.val / 4096) + k.val / 128))
          (head A 4096 (8 * (r.val / 4096) + k.val / 128)) (r.val % 4096 / 256) (r.val % 4096 % 256) ⟨k.val % 128, by omega⟩ : EReal) := by
  unfold outArr
  exact (gathered_at _ r k).trans (headOut_at A hA ⟨8 * (r.val / 4096) + k.val / 128, by omega⟩ ⟨r.val % 4096, by omega⟩ ⟨k.val % 128, by omega⟩)

end Weights

/-! The stages of the reference's run. -/

section Run

variable (W : Valuation τ sig (Elt Ideal))

/-- The argument's array. -/
abbrev arg : FVec Ideal S16384x7168 .bf16 := W (Proc.devRef .tc main_arg0)

theorem proj_eq : res_main_v1 (F := Ideal) W = projArr (arg W) := rfl

theorem query_eq : res_main_v5 (F := Ideal) W = queryArr (arg W) := by
  unfold res_main_v5 queryArr; rw [proj_eq]; rfl

theorem key_eq : res_main_v14 (F := Ideal) W = keyArr (arg W) := by
  unfold res_main_v14 keyArr; rw [proj_eq]; rfl

theorem value_eq : res_main_v15 (F := Ideal) W = valueArr (arg W) := by
  unfold res_main_v15 valueArr; rw [proj_eq]; rfl

theorem numbers_eq : res_main_v19 (F := Ideal) W = rowNumbers := rfl

theorem blocks_eq : res_main_v20 (F := Ideal) W = blockNumbers := by
  unfold res_main_v20 blockNumbers res_main_call0_v2 res_main_call0_v0 quotients blockSize; rw [numbers_eq]

theorem gate_eq : res_main_v29 (F := Ideal) W = gateArr (arg W) := by
  unfold res_main_v29 gateArr meanArr; rw [blocks_eq, query_eq, key_eq]

theorem pick_eq : res_main_indices (F := Ideal) W = pickArr (arg W) := by
  unfold res_main_indices pickArr; rw [gate_eq]

theorem score_eq : res_main_v79 (F := Ideal) W = scoreArr (arg W) := by
  unfold res_main_v79 scoreArr pastArr ownArr pickedOf ownOfArr pickPos ownPos; rw [blocks_eq, query_eq, key_eq, pick_eq, numbers_eq]

theorem exp_eq : res_main_v86 (F := Ideal) W = expArr (arg W) := by
  unfold res_main_v86 expArr maxArr; rw [score_eq]

theorem weight_eq : res_main_v90 (F := Ideal) W = weightArr (arg W) := by
  unfold res_main_v90 weightArr; rw [exp_eq]

end Run

end AttnRows
-- ==== Proof.AttnValue.lean ====
/- The attention kernel's result array is the reference's, in exact arithmetic, for real arguments. -/
module

public import proofs.«01_k».proof.Proof.AttnOut
public import proofs.«01_k».proof.Proof.AttnRef
public import proofs.«01_k».proof.Proof.Gen.Pre_finite
public import proofs.«01_k».proof.Defs
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Patterns (IsReal isReal_of_lt)

namespace AttnRows

/-! The precondition, read back. -/

open Cert.Pre_finite in
theorem finite_arg (A : FVec Ideal S16384x7168 .bf16) (h : Cert.Pre_finite.fn (F := Ideal) A = fun _ => 1#1) : ∀ i, IsReal (A i) := by
  have h0 := congrFun h (fun a => a.elim0)
  have s : Subsingleton S_.Idx := ⟨fun a b => funext fun z => z.elim0⟩
  exact fun i => isReal_of_lt (Host.reduce_andi_all _ _ _ _ _ h0 i)

/-! The reference's result. -/

open Cert.AttnRefIdeal Cert.AttnRefIdeal.Gen Cert.AttnRefIdeal.Value in
theorem reference_eq (W : Valuation τ sig (Elt Ideal)) : val3 W (Proc.devRef .tc main_v100) = outArr (arg W) := by
  refine (val3_main_v100 W).trans ?_
  unfold outArr pickedOut ownOut pickedOf ownOfArr pickPos ownPos
  rw [blocks_eq, value_eq, pick_eq, weight_eq]

open Cert.AttnIdeal Cert.AttnIdeal.Gen Cert.AttnIdeal.Hand

variable (m : (ℓ : Loc nD τ sig) → Buf (Elt Ideal) ℓ)

theorem index_maps : ∀ t : Fin cfg0.N, win0_0.index t = ![t.val / 8, 16 + t.val % 8] ∧ win0_1.index t = ![t.val / 8, 24 + t.val % 8]
    ∧ win0_2.index t = ![t.val / 8, 32 + t.val % 8] ∧ win0_3.index t = ![t.val / 8, t.val % 8] :=
  (by decide +kernel : ∀ t : Fin grid0.N, _)

/-- The kernel's argument. -/
abbrev given (c : Dev nD) : FVec Ideal S16384x7168 .bf16 := m ((c : Thread nD τ).loc main_arg0)

/-- The reference's result over the kernel's argument. -/
abbrev target (c : Dev nD) : FVec Ideal S16384x1024 .bf16 := outArr (given m c)

section Reads

variable (c : Dev nD) (t : Fin cfg0.N)

theorem point_lt : t.val < 32 := t.isLt

theorem read_0 (s : Fin 4096) (d : Fin 128) :
    iblk m c 0 t (ix2 s d) = given m c (ix2 ⟨4096 * (t.val / 8) + s.val, by have := point_lt t; omega⟩ ⟨2048 + 128 * (t.val % 8) + d.val, by omega⟩) := by
  blk_point [iblk, V, index_maps t]

theorem read_1 (s : Fin 4096) (d : Fin 128) :
    iblk m c 1 t (ix2 s d) = given m c (ix2 ⟨4096 * (t.val / 8) + s.val, by have := point_lt t; omega⟩ ⟨3072 + 128 * (t.val % 8) + d.val, by omega⟩) := by
  blk_point [iblk, V, index_maps t]

theorem read_2 (s : Fin 4096) (d : Fin 128) :
    iblk m c 2 t (ix2 s d) = given m c (ix2 ⟨4096 * (t.val / 8) + s.val, by have := point_lt t; omega⟩ ⟨4096 + 128 * (t.val % 8) + d.val, by omega⟩) := by
  blk_point [iblk, V, index_maps t]

end Reads

variable (c : Dev nD) (hA : ∀ i, IsReal (given m c i))
include hA

theorem entry_eq (t : Fin cfg0.N) (s : Fin 4096) (d : Fin 128) :
    outAt m c t (ix2 s d) = target m c (ix2 ⟨4096 * (t.val / 8) + s.val, by have := point_lt t; omega⟩ ⟨128 * (t.val % 8) + d.val, by omega⟩) := by
  have hA' : ∀ r k, IsReal (given m c (ix2 r k)) := fun r k => hA _
  have ht := point_lt t
  unfold outAt
  rw [bodyOut_at (Q := head (given m c) 2048 t.val) (K := head (given m c) 3072 t.val) (V := head (given m c) 4096 t.val)
    (h0 := fun s d => (read_0 m c t s d).trans (head_eq (given m c) hA' _ _ _ _ _ _ rfl rfl))
    (h1 := fun s d => (read_1 m c t s d).trans (head_eq (given m c) hA' _ _ _ _ _ _ rfl rfl))
    (h2 := fun s d => (read_2 m c t s d).trans (head_eq (given m c) hA' _ _ _ _ _ _ rfl rfl)), target, outArr_at (given m c) hA']
  have e1 : 8 * ((4096 * (t.val / 8) + s.val) / 4096) + (128 * (t.val % 8) + d.val) / 128 = t.val := by omega
  have e2 : (4096 * (t.val / 8) + s.val) % 4096 = s.val := by omega
  have e3 : (128 * (t.val % 8) + d.val) % 128 = d.val := by omega
  simp only [e1, e2, e3]

theorem final : (dats m 0 c).arrAt 3 (cfgs 0).N = target m c := by
  refine (dats m 0 c).arrAt_eq_of_covers 3 _ (by decide +kernel) fun t hf y => ?_
  blk_simp; rw [after_3]
  idx_vars y
  refine (entry_eq m c hA t y0 y1).trans (congrArg _ ?_)
  blk_ext [index_maps t]

end AttnRows
-- ==== Proof.FfnMath.lean ====
/-
The feed-forward part, row by row, in exact arithmetic.
-/
module

public import proofs.«01_k».proof.Proof.Gen.FfnIdeal.Frame
public import proofs.«01_k».proof.Proof.Gen.FfnRefIdeal.Run
public import Idealize.ShloMosaic.Lib.Pointwise

@[expose] public section

set_option maxRecDepth 16384

noncomputable section

open Idealize.ShloMosaic Idealize.ShloMosaic.TcCoe Idealize.SL.Sem

namespace FfnRows

/-- The root-mean-square scaling of one row of 1024 entries. -/
def scaled (x : Fin 1024 → EReal) (k : Fin 1024) : EReal :=
  x k * Ideal.rsqrt (Ideal.div (∑ l, x l * x l) (Ideal.ofBits .f32 0x44800000#32) + Ideal.ofBits .f32 0x358637BD#32)

/-- The row the two projections read: scaled, times gain and (1 + scale), plus shift. -/
def hidden (x g sc sh : Fin 1024 → EReal) (k : Fin 1024) : EReal :=
  scaled x k * (g k * (1 + sc k)) + sh k

/-- `t · σ(t)`. -/
def gated (t : EReal) : EReal := t * Ideal.logistic t

/-- The row after the gated projections. -/
def inner (h : Fin 1024 → EReal) (wg wu : Fin 1024 → Fin 2816 → EReal) (f : Fin 2816) : EReal :=
  gated (∑ k, h k * wg k f) * ∑ k, h k * wu k f

/-- The residual row: the input plus the gate times the down projection. -/
def added (x gt : Fin 1024 → EReal) (z : Fin 2816 → EReal) (wd : Fin 2816 → Fin 1024 → EReal) (k : Fin 1024) : EReal :=
  x k + gt k * ∑ f, z f * wd f k

section Kernel
open Cert.FfnIdeal Cert.FfnIdeal.Gen

theorem inner_kernel (x : FVec Ideal S512x1024 .f32) (g : FVec Ideal S1x1024 .f32) (sc sh : FVec Ideal S1x1x1024 .f32)
    (wg wu : FVec Ideal S1024x2816 .bf16) (r : Fin 512) (f : Fin 2816) :
    k0_pay2 (F := Ideal) x g sc sh wg wu (ix2 r f) =
      inner (hidden (fun k => x (ix2 r k)) (fun k => g (ix2 0 k)) (fun k => sc (ix3 0 0 k)) (fun k => sh (ix3 0 0 k)))
        (fun k f => wg (ix2 k f)) (fun k f => wu (ix2 k f)) f := by
  pointwise [k0_pay2, inner, hidden, scaled, gated]

theorem out_kernel (x : FVec Ideal S512x1024 .f32) (z : FVec Ideal S512x2816 .bf16) (gt : FVec Ideal S1x1x1024 .f32)
    (wd : FVec Ideal S2816x1024 .bf16) (gf : FVec Ideal S1x1024 .f32) (r : Fin 512) (k : Fin 1024) :
    k0_pay1 (F := Ideal) x z (k0_pay3 (F := Ideal) gt) wd gf (ix2 r k) =
      scaled (added (fun k => x (ix2 r k)) (fun k => gt (ix3 0 0 k)) (fun f => z (ix2 r f)) (fun f k => wd (ix2 f k))) k
        * gf (ix2 0 k) := by
  pointwise [k0_pay1, k0_pay3, added, scaled]

end Kernel

section Reference
open Cert.FfnRefIdeal Cert.FfnRefIdeal.Gen Cert.FfnRefIdeal.Value

/-- The batch a row of the flattened array belongs to. -/
def batch (p : Fin 16384) : Fin 4 := ⟨p.val / 4096, by omega⟩

/-- The scaling by the root mean square, over the whole array. -/
def scaledArr (x : FVec Ideal S4x4096x1024 .f32) : FVec Ideal S4x4096x1024 .f32 :=
  mulf x (broadcastInDim S4x4096x1024 ![0, 1, 2] bcast_S4x4096x1_S4x4096x1024_0_1_2 (Host.rsqrt (addf
    (Host.divf (broadcastInDim S4x4096x1 ![0, 1] bcast_S4x4096_S4x4096x1_0_1
      (Host.reduceAdd (mulf x x) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x358637BD#32)))))

/-- The input's rows, grouped by batch. -/
def rowsArr (x : FVec Ideal S16384x1024 .f32) : FVec Ideal S4x4096x1024 .f32 :=
  shapeCast _ x shapeCasts_S16384x1024_S4x4096x1024

/-- A gain row spread over the whole array. -/
def gainArr (g : FVec Ideal S1x1024 .f32) : FVec Ideal S4x4096x1024 .f32 :=
  broadcastInDim S4x4096x1024 ![0, 1, 2] bcast_S1x1x1024_S4x4096x1024_0_1_2
    (broadcastInDim S1x1x1024 ![2] bcast_S1024_S1x1x1024_2 (shapeCast _ g shapeCasts_S1x1024_S1024))

/-- The array the two projections read. -/
def hiddenArr (x : FVec Ideal S16384x1024 .f32) (md : FVec Ideal S4x6x1024 .f32) (g : FVec Ideal S1x1024 .f32) :
    FVec Ideal S4x4096x1024 .f32 :=
  addf (mulf (mulf (scaledArr (rowsArr x)) (gainArr g))
    (broadcastInDim S4x4096x1024 ![0, 1, 2] bcast_S4x1x1024_S4x4096x1024_0_1_2
      (addf (broadcastInDim S4x1x1024 ![] bcast_S_S4x1x1024 (constant S_ .f32 0x3F800000#32))
        (broadcastInDim S4x1x1024 ![0, 2] bcast_S4x1024_S4x1x1024_0_2
          (shapeCast _ (extractStridedSlice S4x1x1024 ![0, 4, 0] md slices_S4x6x1024_S4x1x1024_0_4_0) shapeCasts_S4x1x1024_S4x1024)))))
    (broadcastInDim S4x4096x1024 ![0, 1, 2] bcast_S4x1x1024_S4x4096x1024_0_1_2
      (broadcastInDim S4x1x1024 ![0, 2] bcast_S4x1024_S4x1x1024_0_2
        (shapeCast _ (extractStridedSlice S4x1x1024 ![0, 3, 0] md slices_S4x6x1024_S4x1x1024_0_3_0) shapeCasts_S4x1x1024_S4x1024)))

/-- A projection of the hidden array. -/
def projArr (h : FVec Ideal S4x4096x1024 .f32) (w : FVec Ideal S1024x2816 .f32) : FVec Ideal S4x4096x2816 .f32 :=
  Host.dotGeneral dot_S4x4096x1024_S1024x2816_S4x4096x2816_2_0_01_1_n_n none h w

/-- The product of the gated projection and the plain one. -/
def innerArr (h : FVec Ideal S4x4096x1024 .f32) (wg wu : FVec Ideal S1024x2816 .f32) : FVec Ideal S4x4096x2816 .f32 :=
  mulf (mulf (projArr h wg) (Host.divf (broadcastInDim S4x4096x2816 ![] bcast_S_S4x4096x2816 (constant S_ .f32 0x3F800000#32))
    (addf (broadcastInDim S4x4096x2816 ![] bcast_S_S4x4096x2816 (constant S_ .f32 0x3F800000#32))
      (Host.exp (Host.negf (projArr h wg)))))) (projArr h wu)

/-- The residual array. -/
def addedArr (x : FVec Ideal S16384x1024 .f32) (md : FVec Ideal S4x6x1024 .f32) (z : FVec Ideal S4x4096x2816 .f32)
    (wd : FVec Ideal S2816x1024 .f32) : FVec Ideal S4x4096x1024 .f32 :=
  addf (rowsArr x) (mulf (broadcastInDim S4x4096x1024 ![0, 1, 2] bcast_S4x1x1024_S4x4096x1024_0_1_2
      (broadcastInDim S4x1x1024 ![0, 2] bcast_S4x1024_S4x1x1024_0_2
        (shapeCast _ (extractStridedSlice S4x1x1024 ![0, 5, 0] md slices_S4x6x1024_S4x1x1024_0_5_0) shapeCasts_S4x1x1024_S4x1024)))
    (Host.dotGeneral dot_S4x4096x2816_S2816x1024_S4x4096x1024_2_0_01_1_n_n none z wd))

/-- The reference's result, from its arguments. -/
def refArr (x : FVec Ideal S16384x1024 .f32) (md : FVec Ideal S4x6x1024 .f32) (g : FVec Ideal S1x1024 .f32)
    (wg wu : FVec Ideal S1024x2816 .f32) (wd : FVec Ideal S2816x1024 .f32) (gf : FVec Ideal S1x1024 .f32) :
    FVec Ideal S16384x1024 .f32 :=
  shapeCast _ (mulf (scaledArr (addedArr x md (innerArr (hiddenArr x md g) wg wu) wd)) (gainArr gf))
    shapeCasts_S4x4096x1024_S16384x1024

theorem reference_eq (m : (ℓ : Loc nD τ sig) → Buf (Elt Ideal) ℓ) (c : Dev nD) :
    res_main_v52 m c = refArr (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) := by
  unfold res_main_v52; rfl

theorem scaledArr_at (x : FVec Ideal S4x4096x1024 .f32) (b : Fin 4) (s : Fin 4096) (k : Fin 1024) :
    scaledArr x (ix3 b s k) = scaled (fun k => x (ix3 b s k)) k := by
  pointwise! [scaledArr, scaled]

theorem hiddenArr_at (x : FVec Ideal S16384x1024 .f32) (md : FVec Ideal S4x6x1024 .f32) (g : FVec Ideal S1x1024 .f32)
    (b : Fin 4) (s : Fin 4096) (k : Fin 1024) :
    hiddenArr x md g (ix3 b s k) = hidden (fun k => rowsArr x (ix3 b s k)) (fun k => g (ix2 0 k))
      (fun k => md (ix3 b 4 k)) (fun k => md (ix3 b 3 k)) k := by
  pointwise! [hiddenArr, hidden, scaledArr_at, gainArr]

theorem innerArr_at (h : FVec Ideal S4x4096x1024 .f32) (wg wu : FVec Ideal S1024x2816 .f32)
    (b : Fin 4) (s : Fin 4096) (f : Fin 2816) :
    innerArr h wg wu (ix3 b s f) = inner (fun k => h (ix3 b s k)) (fun k f => wg (ix2 k f)) (fun k f => wu (ix2 k f)) f := by
  pointwise! [innerArr, inner, gated, projArr, Ideal.logistic]

theorem addedArr_at (x : FVec Ideal S16384x1024 .f32) (md : FVec Ideal S4x6x1024 .f32) (z : FVec Ideal S4x4096x2816 .f32)
    (wd : FVec Ideal S2816x1024 .f32) (b : Fin 4) (s : Fin 4096) (k : Fin 1024) :
    addedArr x md z wd (ix3 b s k) = added (fun k => rowsArr x (ix3 b s k)) (fun k => md (ix3 b 5 k))
      (fun f => z (ix3 b s f)) (fun f k => wd (ix2 f k)) k := by
  pointwise! [addedArr, added]

theorem rowsArr_at (x : FVec Ideal S16384x1024 .f32) (p : Fin 16384) (k : Fin 1024) :
    rowsArr x (ix3 (batch p) ⟨p.val % 4096, by omega⟩ k) = x (ix2 p k) := by
  pointwise [rowsArr, batch]

theorem refArr_at (x : FVec Ideal S16384x1024 .f32) (md : FVec Ideal S4x6x1024 .f32) (g : FVec Ideal S1x1024 .f32)
    (wg wu : FVec Ideal S1024x2816 .f32) (wd : FVec Ideal S2816x1024 .f32) (gf : FVec Ideal S1x1024 .f32)
    (p : Fin 16384) (k : Fin 1024) :
    refArr x md g wg wu wd gf (ix2 p k) =
      scaled (added (fun k => x (ix2 p k)) (fun k => md (ix3 (batch p) 5 k))
        (inner (hidden (fun k => x (ix2 p k)) (fun k => g (ix2 0 k)) (fun k => md (ix3 (batch p) 4 k))
            (fun k => md (ix3 (batch p) 3 k)))
          (fun k f => wg (ix2 k f)) (fun k f => wu (ix2 k f)))
        (fun f k => wd (ix2 f k))) k * gf (ix2 0 k) := by
  pointwise [refArr, gainArr]
  refine congrArg (· * gf (ix2 0 k)) ((scaledArr_at _ (batch p) ⟨p.val % 4096, by omega⟩ k).trans ?_)
  simp only [addedArr_at, innerArr_at, hiddenArr_at, rowsArr_at]

end Reference

end FfnRows
-- ==== Proof.FfnValue.lean ====
/- The feed-forward kernel's result array is the reference's, in exact arithmetic. -/
module

public import proofs.«01_k».proof.Proof.FfnMath
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace FfnRows

open Cert.FfnIdeal Cert.FfnIdeal.Gen

variable (m : (ℓ : Loc nD τ sig) → Buf (Elt Ideal) ℓ)

theorem index_maps : ∀ t : Fin cfg0.N, win0_0.index t = ![t.val, 0] ∧ win0_1.index t = ![t.val / 8, 0, 0]
    ∧ win0_2.index t = ![0, 0] ∧ win0_3.index t = ![0, 0] ∧ win0_4.index t = ![0, 0]
    ∧ win0_5.index t = ![0, 0] ∧ win0_6.index t = ![0, 0] ∧ win0_7.index t = ![t.val, 0] :=
  (by decide +kernel : ∀ t : Fin grid0.N, _)

/-- The reference's result over the kernel's arguments. -/
abbrev target (c : Dev nD) : FVec Ideal S16384x1024 .f32 :=
  refArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem batch_eq (t : Fin cfg0.N) (r : Fin 512) (p : Fin 16384) (hp : p.val = t.val * 512 + r.val) : (batch p).val = t.val / 8 := by
  have := r.isLt
  simp only [batch]
  omega

theorem block_eq (c : Dev nD) (t : Fin cfg0.N) (r : Fin 512) (k : Fin 1024) (p : Fin 16384) (hp : p.val = t.val * 512 + r.val) :
    k0_pay1 (F := Ideal) (iblk m c 0 t) (k0_pay2 (iblk m c 0 t) (iblk m c 2 t) (View.ld (iblk m c 1 t) r0_2)
      (View.ld (iblk m c 1 t) r0_3) (iblk m c 3 t) (iblk m c 4 t)) (k0_pay3 (View.ld (iblk m c 1 t) r0_5))
      (iblk m c 5 t) (iblk m c 6 t) (ix2 r k) = target m c (ix2 p k) := by
  refine (out_kernel _ _ _ _ _ r k).trans (Eq.trans ?_ (refArr_at _ _ _ _ _ _ _ p k).symm)
  simp only [inner_kernel]
  pointwise
  have hb := batch_eq t r p hp
  blk_point [iblk, V, index_maps t, batch]

theorem final (c : Dev nD) : (dats m 0 c).arrAt 7 (cfgs 0).N = target m c := by
  refine (dats m 0 c).arrAt_eq_of_covers 7 _ (by decide +kernel) fun t hf y => ?_
  blk_simp; rw [after0_7]; frame_out
  idx_vars y
  have hy := y0.isLt
  have ht : t.val < 32 := t.isLt
  refine (block_eq m c t y0 y1 ⟨t.val * 512 + y0.val, by omega⟩ rfl).trans (congrArg _ ?_)
  blk_ext [index_maps t]

end FfnRows
-- ==== Proof.ProjMath.lean ====
/- The projection tile by tile, row by row, in exact arithmetic. -/
module

public import proofs.«01_k».proof.Proof.Gen.ProjIdeal.Frame
public import proofs.«01_k».proof.Proof.Gen.ProjRefIdeal.Run
public import proofs.«01_k».proof.Proof.FfnMath
public import proofs.«01_k».proof.Proof.Consts
public import Idealize.ShloMosaic.Lib.Pointwise

@[expose] public section

set_option maxRecDepth 16384

noncomputable section

open Idealize.ShloMosaic Idealize.ShloMosaic.TcCoe Idealize.SL.Sem
open FfnRows (scaled batch)

namespace ProjRows

/-- One entry of a product of a row with a matrix. -/
def mixed {n : ℕ} (h : Fin 1024 → EReal) (w : Fin 1024 → Fin n → EReal) (q : Fin n) : EReal := ∑ k, h k * w k q

/-- The smooth gate `t/2 · (1 + tanh(c₂ (t + c₁ t³)))`. -/
def gelu (t : EReal) : EReal :=
  t * (Ideal.ofBits .f32 0x3F000000#32 *
    (1 + Ideal.tanh (Ideal.ofBits .f32 0x3F4C422A#32 * (t + Ideal.ofBits .f32 0x3D372713#32 * (t * (t * t))))))

/-- A row with its mean taken off. -/
def centred (v : Fin 1024 → EReal) (k : Fin 1024) : EReal := v k - Ideal.div (∑ l, v l) (Ideal.ofBits .f32 0x44800000#32)

/-- A row normalised to mean zero and unit variance, then scaled and shifted. -/
def normed (v lg lb : Fin 1024 → EReal) (k : Fin 1024) : EReal := scaled (centred v) k * lg k + lb k

section Kernel
open Cert.ProjIdeal Cert.ProjIdeal.Gen

theorem hidden_kernel (g : FVec Ideal S1x1024 .f32) (sc : FVec Ideal S1x1x1024 .f32) (x : FVec Ideal S512x1024 .f32)
    (sh : FVec Ideal S1x1x1024 .f32) (r : Fin 512) (k : Fin 1024) :
    k0_pay1 (F := Ideal) g sc x sh (ix2 r k) =
      FfnRows.hidden (fun k => x (ix2 r k)) (fun k => g (ix2 0 k)) (fun k => sc (ix3 0 0 k)) (fun k => sh (ix3 0 0 k)) k := by
  pointwise! [k0_pay1, FfnRows.hidden, scaled]

variable (h : FVec Ideal S512x1024 .bf16) (w : FVec Ideal S1024x1024 .bf16) (lg lb : FVec Ideal S1x1024 .f32)

theorem mixed_kernel (r : Fin 512) (q : Fin 1024) :
    k0_pay2 (F := Ideal) h w (ix2 r q) = mixed (fun k => h (ix2 r k)) (fun k q => w (ix2 k q)) q := by
  pointwise! [k0_pay2, mixed]

theorem tile0_kernel (r : Fin 512) (q : Fin 1024) :
    k0_pay3 (F := Ideal) h w (ix2 r q) = gelu (mixed (fun k => h (ix2 r k)) (fun k q => w (ix2 k q)) q) := by
  pointwise! [k0_pay3, mixed_kernel, gelu]

theorem tile1_kernel (r : Fin 512) (q : Fin 1024) :
    k0_pay4 (F := Ideal) h w lg lb (ix2 r q) =
      normed (fun q => gelu (mixed (fun k => h (ix2 r k)) (fun k q => w (ix2 k q)) q))
        (fun q => lg (ix2 0 q)) (fun q => lb (ix2 0 q)) q := by
  pointwise! [k0_pay4, mixed_kernel, gelu, normed, centred, scaled]

theorem tile2_kernel (r : Fin 512) (q : Fin 1024) :
    k0_pay5 (F := Ideal) h w (ix2 r q) =
      mixed (fun k => h (ix2 r k)) (fun k q => w (ix2 k q)) q * (((Real.sqrt 128)⁻¹ : ℝ) : EReal) := by
  have hs : Named.named (F := Ideal) Cert.ProjIdeal.κ "s" (φ := .f32) 0x3DB504F3#32 = (((Real.sqrt 128)⁻¹ : ℝ) : EReal) :=
    IdealRules.named_const.ideal_named_scalar _ _ _ _ rfl
  pointwise! [k0_pay5, mixed_kernel, hs]

theorem tile3_kernel (r : Fin 512) (q : Fin 1024) :
    k0_pay6 (F := Ideal) h w (ix2 r q) = mixed (fun k => h (ix2 r k)) (fun k q => w (ix2 k q)) q := by
  pointwise! [k0_pay6, mixed_kernel]

theorem tile5_kernel (r : Fin 512) (q : Fin 1024) :
    k0_pay7 (F := Ideal) h w (ix2 r q) = Ideal.logistic (mixed (fun k => h (ix2 r k)) (fun k q => w (ix2 k q)) q) := by
  pointwise! [k0_pay7, mixed_kernel]

end Kernel

section Reference
open Cert.ProjRefIdeal Cert.ProjRefIdeal.Gen Cert.ProjRefIdeal.Value

/-- The scaling by the root mean square, over the whole array. -/
def scaledArr (x y : FVec Ideal S4x4096x1024 .f32) : FVec Ideal S4x4096x1024 .f32 :=
  mulf x (broadcastInDim S4x4096x1024 ![0, 1, 2] bcast_S4x4096x1_S4x4096x1024_0_1_2 (Host.rsqrt (addf
    (Host.divf (broadcastInDim S4x4096x1 ![0, 1] bcast_S4x4096_S4x4096x1_0_1
      (Host.reduceAdd (mulf y y) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x358637BD#32)))))

/-- A row spread over the whole array. -/
def gainArr (g : FVec Ideal S1x1024 .f32) : FVec Ideal S4x4096x1024 .f32 :=
  broadcastInDim S4x4096x1024 ![0, 1, 2] bcast_S1x1x1024_S4x4096x1024_0_1_2
    (broadcastInDim S1x1x1024 ![2] bcast_S1024_S1x1x1024_2 (shapeCast _ g shapeCasts_S1x1024_S1024))

/-- The input's rows, grouped by batch. -/
def rowsArr (x : FVec Ideal S16384x1024 .f32) : FVec Ideal S4x4096x1024 .f32 :=
  shapeCast _ x shapeCasts_S16384x1024_S4x4096x1024

/-- The array the projection reads. -/
def hiddenArr (x : FVec Ideal S16384x1024 .f32) (md : FVec Ideal S4x6x1024 .f32) (g : FVec Ideal S1x1024 .f32) :
    FVec Ideal S4x4096x1024 .f32 :=
  addf (mulf (mulf (scaledArr (rowsArr x) (rowsArr x)) (gainArr g))
    (broadcastInDim S4x4096x1024 ![0, 1, 2] bcast_S4x1x1024_S4x4096x1024_0_1_2
      (addf (broadcastInDim S4x1x1024 ![] bcast_S_S4x1x1024 (constant S_ .f32 0x3F800000#32))
        (broadcastInDim S4x1x1024 ![0, 2] bcast_S4x1024_S4x1x1024_0_2
          (shapeCast _ (extractStridedSlice S4x1x1024 ![0, 1, 0] md slices_S4x6x1024_S4x1x1024_0_1_0) shapeCasts_S4x1x1024_S4x1024)))))
    (broadcastInDim S4x4096x1024 ![0, 1, 2] bcast_S4x1x1024_S4x4096x1024_0_1_2
      (broadcastInDim S4x1x1024 ![0, 2] bcast_S4x1024_S4x1x1024_0_2
        (shapeCast _ (extractStridedSlice S4x1x1024 ![0, 0, 0] md slices_S4x6x1024_S4x1x1024_0_0_0) shapeCasts_S4x1x1024_S4x1024)))

/-- The whole projection. -/
def mixedArr (h : FVec Ideal S4x4096x1024 .f32) (w : FVec Ideal S1024x7168 .f32) : FVec Ideal S4x4096x7168 .f32 :=
  Host.dotGeneral dot_S4x4096x1024_S1024x7168_S4x4096x7168_2_0_01_1_n_n none h w

/-- One number at every entry of the array. -/
def everywhere (a : FVec Ideal S_ .f32) : FVec Ideal S4x4096x1024 .f32 :=
  broadcastInDim S4x4096x1024 ![] bcast_S_S4x4096x1024 a

/-- The smooth gate, entry by entry. -/
def geluArr (t : FVec Ideal S4x4096x1024 .f32) : FVec Ideal S4x4096x1024 .f32 :=
  mulf t (mulf (everywhere (constant S_ .f32 0x3F000000#32)) (addf (everywhere (constant S_ .f32 0x3F800000#32))
    (Host.tanh (mulf (everywhere (constant S_ .f32 0x3F4C422A#32)) (addf t (mulf (everywhere (constant S_ .f32 0x3D372713#32))
      (mulf (mulf t t) t)))))))

/-- Every row with its mean taken off. -/
def centredArr (v : FVec Ideal S4x4096x1024 .f32) : FVec Ideal S4x4096x1024 .f32 :=
  subf v (broadcastInDim S4x4096x1024 ![0, 1, 2] bcast_S4x4096x1_S4x4096x1024_0_1_2
    (Host.divf (broadcastInDim S4x4096x1 ![0, 1] bcast_S4x4096_S4x4096x1_0_1
      (Host.reduceAdd v (constant S_ .f32 0x00000000#32) reducesTo_S4x4096x1024_S4x4096_d2 h_S_))
      (broadcastInDim S4x4096x1 ![] bcast_S_S4x4096x1 (constant S_ .f32 0x44800000#32))))

/-- Every row normalised, scaled and shifted. -/
def normedArr (v : FVec Ideal S4x4096x1024 .f32) (lg lb : FVec Ideal S1x1024 .f32) : FVec Ideal S4x4096x1024 .f32 :=
  addf (mulf (scaledArr (centredArr v) (centredArr v)) (gainArr lg)) (gainArr lb)

/-- `σ`, entry by entry. -/
def sigmoidArr (t : FVec Ideal S4x4096x1024 .f32) : FVec Ideal S4x4096x1024 .f32 :=
  Host.divf (everywhere (constant S_ .f32 0x3F800000#32))
    (addf (everywhere (constant S_ .f32 0x3F800000#32)) (Host.exp (Host.negf t)))

/-- The reference's result from the projection. -/
def tilesArr (p : FVec Ideal S4x4096x7168 .f32) (lg lb : FVec Ideal S1x1024 .f32) : FVec Ideal S4x4096x7168 .f32 :=
  fn_main_v103 (F := Ideal)
    (geluArr (extractStridedSlice S4x4096x1024 ![0, 0, 0] p slices_S4x4096x7168_S4x4096x1024_0_0_0))
    (normedArr (geluArr (extractStridedSlice S4x4096x1024 ![0, 0, 1024] p slices_S4x4096x7168_S4x4096x1024_0_0_1024)) lg lb)
    (mulf (extractStridedSlice S4x4096x1024 ![0, 0, 2048] p slices_S4x4096x7168_S4x4096x1024_0_0_2048)
      (everywhere (Host.divf (constant S_ .f32 0x3F800000#32) (Host.sqrt (constant S_ .f32 0x43000000#32)))))
    (extractStridedSlice S4x4096x1024 ![0, 0, 3072] p slices_S4x4096x7168_S4x4096x1024_0_0_3072)
    (extractStridedSlice S4x4096x1024 ![0, 0, 4096] p slices_S4x4096x7168_S4x4096x1024_0_0_4096)
    (sigmoidArr (extractStridedSlice S4x4096x1024 ![0, 0, 5120] p slices_S4x4096x7168_S4x4096x1024_0_0_5120))
    (sigmoidArr (extractStridedSlice S4x4096x1024 ![0, 0, 6144] p slices_S4x4096x7168_S4x4096x1024_0_0_6144))

/-- The reference's result, from its arguments. -/
def refArr (x : FVec Ideal S16384x1024 .f32) (md : FVec Ideal S4x6x1024 .f32) (g : FVec Ideal S1x1024 .f32)
    (w : FVec Ideal S1024x7168 .f32) (lg lb : FVec Ideal S1x1024 .f32) : FVec Ideal S16384x7168 .bf16 :=
  truncf .bf16 (shapeCast _ (tilesArr (mixedArr (hiddenArr x md g) w) lg lb) shapeCasts_S4x4096x7168_S16384x7168) bitsLt_bf16_f32

set_option maxHeartbeats 1600000 in
theorem reference_eq (m : (ℓ : Loc nD τ sig) → Buf (Elt Ideal) ℓ) (c : Dev nD) :
    res_main_v105 m c = refArr (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v105; rfl

theorem scaledArr_at (x : FVec Ideal S4x4096x1024 .f32) (b : Fin 4) (s : Fin 4096) (k : Fin 1024) :
    scaledArr x x (ix3 b s k) = scaled (fun k => x (ix3 b s k)) k := by
  pointwise! [scaledArr, scaled]

theorem hiddenArr_at (x : FVec Ideal S16384x1024 .f32) (md : FVec Ideal S4x6x1024 .f32) (g : FVec Ideal S1x1024 .f32)
    (b : Fin 4) (s : Fin 4096) (k : Fin 1024) :
    hiddenArr x md g (ix3 b s k) = FfnRows.hidden (fun k => rowsArr x (ix3 b s k)) (fun k => g (ix2 0 k))
      (fun k => md (ix3 b 1 k)) (fun k => md (ix3 b 0 k)) k := by
  pointwise! [hiddenArr, FfnRows.hidden, scaledArr_at, gainArr]

theorem mixedArr_at (h : FVec Ideal S4x4096x1024 .f32) (w : FVec Ideal S1024x7168 .f32) (b : Fin 4) (s : Fin 4096) (q : Fin 7168) :
    mixedArr h w (ix3 b s q) = mixed (fun k => h (ix3 b s k)) (fun k q => w (ix2 k q)) q := by
  pointwise! [mixedArr, mixed]

theorem geluArr_at (t : FVec Ideal S4x4096x1024 .f32) (b : Fin 4) (s : Fin 4096) (k : Fin 1024) :
    geluArr t (ix3 b s k) = gelu (t (ix3 b s k)) := by
  pointwise! [geluArr, gelu, everywhere]

theorem centredArr_at (t : FVec Ideal S4x4096x1024 .f32) (b : Fin 4) (s : Fin 4096) (k : Fin 1024) :
    centredArr t (ix3 b s k) = centred (fun k => t (ix3 b s k)) k := by
  pointwise! [centredArr, centred]

theorem normedArr_at (t : FVec Ideal S4x4096x1024 .f32) (lg lb : FVec Ideal S1x1024 .f32) (b : Fin 4) (s : Fin 4096) (k : Fin 1024) :
    normedArr t lg lb (ix3 b s k) = normed (fun k => t (ix3 b s k)) (fun k => lg (ix2 0 k)) (fun k => lb (ix2 0 k)) k := by
  pointwise! [normedArr, normed, scaledArr_at, centredArr_at, gainArr]

theorem sigmoidArr_at (t : FVec Ideal S4x4096x1024 .f32) (b : Fin 4) (s : Fin 4096) (k : Fin 1024) :
    sigmoidArr t (ix3 b s k) = Ideal.logistic (t (ix3 b s k)) := by
  pointwise! [sigmoidArr, everywhere, Ideal.logistic]

theorem rowsArr_at (x : FVec Ideal S16384x1024 .f32) (p : Fin 16384) (k : Fin 1024) :
    rowsArr x (ix3 (batch p) ⟨p.val % 4096, by omega⟩ k) = x (ix2 p k) := by
  pointwise [rowsArr, batch]

/-- Column `k` of tile `j` among all the columns. -/
def column (j : Fin 7) (k : Fin 1024) : Fin 7168 := ⟨j.val * 1024 + k.val, by omega⟩

section Concatenation

variable (a0 a1 a2 a3 a4 a5 a6 : FVec Ideal S4x4096x1024 .f32) (b : Fin 4) (s : Fin 4096) (k : Fin 1024)

/-- The seven arrays side by side. -/
abbrev joined : FVec Ideal S4x4096x7168 .f32 := fn_main_v103 (F := Ideal) a0 a1 a2 a3 a4 a5 a6

theorem joined_0 : joined a0 a1 a2 a3 a4 a5 a6 (ix3 b s (column 0 k)) = a0 (ix3 b s k) := by
  have hk := k.isLt
  pointwise [joined, fn_main_v103, column]

theorem joined_1 : joined a0 a1 a2 a3 a4 a5 a6 (ix3 b s (column 1 k)) = a1 (ix3 b s k) := by
  have hk := k.isLt
  pointwise [joined, fn_main_v103, column]

theorem joined_2 : joined a0 a1 a2 a3 a4 a5 a6 (ix3 b s (column 2 k)) = a2 (ix3 b s k) := by
  have hk := k.isLt
  pointwise [joined, fn_main_v103, column]
  rw [dif_neg (by omega), dif_neg (by omega), dif_pos (by omega)]
  exact congrArg (fun q => a2 (ix3 b s q)) (Fin.ext (by dsimp only; omega))

theorem joined_3 : joined a0 a1 a2 a3 a4 a5 a6 (ix3 b s (column 3 k)) = a3 (ix3 b s k) := by
  have hk := k.isLt
  pointwise [joined, fn_main_v103, column]
  rw [dif_neg (by omega), dif_neg (by omega), dif_neg (by omega), dif_pos (by omega)]
  exact congrArg (fun q => a3 (ix3 b s q)) (Fin.ext (by dsimp only; omega))

theorem joined_4 : joined a0 a1 a2 a3 a4 a5 a6 (ix3 b s (column 4 k)) = a4 (ix3 b s k) := by
  have hk := k.isLt
  pointwise [joined, fn_main_v103, column]
  rw [dif_neg (by omega), dif_neg (by omega), dif_neg (by omega), dif_neg (by omega), dif_pos (by omega)]
  exact congrArg (fun q => a4 (ix3 b s q)) (Fin.ext (by dsimp only; omega))

theorem joined_5 : joined a0 a1 a2 a3 a4 a5 a6 (ix3 b s (column 5 k)) = a5 (ix3 b s k) := by
  have hk := k.isLt
  pointwise [joined, fn_main_v103, column]
  rw [dif_neg (by omega), dif_neg (by omega), dif_neg (by omega), dif_neg (by omega), dif_neg (by omega), dif_pos (by omega)]
  exact congrArg (fun q => a5 (ix3 b s q)) (Fin.ext (by dsimp only; omega))

theorem joined_6 : joined a0 a1 a2 a3 a4 a5 a6 (ix3 b s (column 6 k)) = a6 (ix3 b s k) := by
  have hk := k.isLt
  pointwise [joined, fn_main_v103, column]
  rw [dif_neg (by omega), dif_neg (by omega), dif_neg (by omega), dif_neg (by omega), dif_neg (by omega), dif_neg (by omega)]
  exact congrArg (fun q => a6 (ix3 b s q)) (Fin.ext (by dsimp only; omega))

end Concatenation

variable (p : FVec Ideal S4x4096x7168 .f32) (lg lb : FVec Ideal S1x1024 .f32) (b : Fin 4) (s : Fin 4096) (k : Fin 1024)

theorem tilesArr_0 : tilesArr p lg lb (ix3 b s (column 0 k)) = gelu (p (ix3 b s (column 0 k))) := by
  refine (joined_0 _ _ _ _ _ _ _ b s k).trans ?_
  pointwise [geluArr_at, column]

theorem tilesArr_1 : tilesArr p lg lb (ix3 b s (column 1 k)) =
    normed (fun k => gelu (p (ix3 b s (column 1 k)))) (fun k => lg (ix2 0 k)) (fun k => lb (ix2 0 k)) k := by
  refine (joined_1 _ _ _ _ _ _ _ b s k).trans ?_
  pointwise [normedArr_at, geluArr_at, column]

theorem tilesArr_2 : tilesArr p lg lb (ix3 b s (column 2 k)) =
    p (ix3 b s (column 2 k)) * (((Real.sqrt 128)⁻¹ : ℝ) : EReal) := by
  rw [← Patterns.root_eq]
  refine (joined_2 _ _ _ _ _ _ _ b s k).trans ?_
  pointwise [everywhere, column]

theorem tilesArr_3 : tilesArr p lg lb (ix3 b s (column 3 k)) = p (ix3 b s (column 3 k)) := by
  refine (joined_3 _ _ _ _ _ _ _ b s k).trans ?_
  pointwise [column]

theorem tilesArr_4 : tilesArr p lg lb (ix3 b s (column 4 k)) = p (ix3 b s (column 4 k)) := by
  refine (joined_4 _ _ _ _ _ _ _ b s k).trans ?_
  pointwise [column]

theorem tilesArr_5 : tilesArr p lg lb (ix3 b s (column 5 k)) = Ideal.logistic (p (ix3 b s (column 5 k))) := by
  refine (joined_5 _ _ _ _ _ _ _ b s k).trans ?_
  pointwise [sigmoidArr_at, column]

theorem tilesArr_6 : tilesArr p lg lb (ix3 b s (column 6 k)) = Ideal.logistic (p (ix3 b s (column 6 k))) := by
  refine (joined_6 _ _ _ _ _ _ _ b s k).trans ?_
  pointwise [sigmoidArr_at, column]

theorem refArr_rows (x : FVec Ideal S16384x1024 .f32) (md : FVec Ideal S4x6x1024 .f32) (g : FVec Ideal S1x1024 .f32)
    (w : FVec Ideal S1024x7168 .f32) (lg lb : FVec Ideal S1x1024 .f32) (r : Fin 16384) (q : Fin 7168) :
    refArr x md g w lg lb (ix2 r q) =
      tilesArr (mixedArr (hiddenArr x md g) w) lg lb (ix3 (batch r) ⟨r.val % 4096, by omega⟩ q) := by
  pointwise [refArr, batch]

theorem mixedArr_rows (x : FVec Ideal S16384x1024 .f32) (md : FVec Ideal S4x6x1024 .f32) (g : FVec Ideal S1x1024 .f32)
    (w : FVec Ideal S1024x7168 .f32) (r : Fin 16384) (q : Fin 7168) :
    mixedArr (hiddenArr x md g) w (ix3 (batch r) ⟨r.val % 4096, by omega⟩ q) =
      mixed (FfnRows.hidden (fun k => x (ix2 r k)) (fun k => g (ix2 0 k))
        (fun k => md (ix3 (batch r) 1 k)) (fun k => md (ix3 (batch r) 0 k))) (fun k q => w (ix2 k q)) q := by
  simp only [mixedArr_at, hiddenArr_at, rowsArr_at]

end Reference

end ProjRows
-- ==== Proof.ProjValue.lean ====
/- The projection kernel's result array is the reference's, in exact arithmetic. -/
module

public import proofs.«01_k».proof.Proof.ProjMath
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open FfnRows (batch)

namespace ProjRows

open Cert.ProjIdeal Cert.ProjIdeal.Gen

variable (m : (ℓ : Loc nD τ sig) → Buf (Elt Ideal) ℓ)

theorem index_maps : ∀ t : Fin cfg0.N, win0_0.index t = ![t.val / 7, 0] ∧ win0_1.index t = ![t.val / 7 / 8, 0, 0]
    ∧ win0_2.index t = ![0, 0] ∧ win0_3.index t = ![0, t.val % 7] ∧ win0_4.index t = ![0, 0]
    ∧ win0_5.index t = ![0, 0] ∧ win0_6.index t = ![t.val / 7, t.val % 7] :=
  (by decide +kernel : ∀ t : Fin grid0.N, _)

/-- The reference's result over the kernel's arguments. -/
abbrev target (c : Dev nD) : FVec Ideal S16384x7168 .bf16 :=
  refArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The row of the array whose product with the weights is row `p` of the projection. -/
abbrev hiddenRow (c : Dev nD) (p : Fin 16384) : Fin 1024 → EReal :=
  FfnRows.hidden (fun k => m ((c : Thread nD τ).loc main_arg0) (ix2 p k)) (fun k => m ((c : Thread nD τ).loc main_arg2) (ix2 0 k))
    (fun k => m ((c : Thread nD τ).loc main_arg1) (ix3 (batch p) 1 k)) (fun k => m ((c : Thread nD τ).loc main_arg1) (ix3 (batch p) 0 k))

/-- The row of the array at row `r` of the tile of grid point `n`. -/
def rowAt (n : ℕ) (hn : n < 224) (r : Fin 512) : Fin 16384 := ⟨n / 7 * 512 + r.val, by omega⟩

theorem first_scratch (c : Dev nD) (t : Fin cfg0.N) (h0 : t.val % 7 = 0) (r : Fin 512) (k : Fin 1024) :
    (outsAt0 m c t.val t.isLt).2 (ix2 r k) = hiddenRow m c (rowAt t.val t.isLt r) k := by
  rw [outsAt0_A m c t h0 h0 (by omega) (by omega) (by omega) (by omega)]
  frame_out
  refine (hidden_kernel _ _ _ _ r k).trans ?_
  have hr := r.isLt
  have ht : t.val < 224 := t.isLt
  have hb : (batch (rowAt t.val t.isLt r)).val = t.val / 7 / 8 := by simp only [batch, rowAt]; omega
  blk_point [iblk, V, index_maps t, hiddenRow, rowAt, batch]

theorem kept_scratch (c : Dev nD) (t : Fin cfg0.N) (h0 : ¬ t.val % 7 = 0) :
    (outsAt0 m c t.val t.isLt).2 = (outsAt0 m c (t.val - 1) (Nat.lt_of_le_of_lt (Nat.sub_le _ _) t.isLt)).2 := by
  by_cases h2 : t.val % 7 = 1
  · rw [outsAt0_B m c t h0 h0 h2 (by omega) (by omega) (by omega)]; rfl
  by_cases h3 : t.val % 7 = 2
  · rw [outsAt0_C m c t h0 h0 h2 h3 (by omega) (by omega)]; rfl
  by_cases h5 : 5 ≤ t.val % 7
  · rw [outsAt0_E m c t h0 h0 h2 h3 (by omega) h5]; rfl
  · rw [outsAt0_D m c t h0 h0 h2 h3 (by omega) h5]; rfl

theorem scratch (c : Dev nD) (n : ℕ) (hn : n < 224) (r : Fin 512) (k : Fin 1024) :
    (outsAt0 m c n hn).2 (ix2 r k) = hiddenRow m c (rowAt n hn r) k := by
  induction n using Nat.strong_induction_on with
  | _ n ih =>
    by_cases h0 : n % 7 = 0
    · exact first_scratch m c ⟨n, hn⟩ h0 r k
    · refine (congrFun (kept_scratch m c ⟨n, hn⟩ h0) _).trans ((ih (n - 1) (by omega) (by omega)).trans ?_)
      have : rowAt (n - 1) (by omega) r = rowAt n hn r := Fin.ext (by simp only [rowAt]; omega)
      rw [this]

theorem scratch_before (c : Dev nD) (n : ℕ) (hn : n < 224) (h0 : ¬ n % 7 = 0) (h : n - 1 < 224) (r : Fin 512) (k : Fin 1024) :
    (outsAt0 m c (n - 1) h).2 (ix2 r k) = hiddenRow m c (rowAt n hn r) k := by
  refine (scratch m c (n - 1) h r k).trans ?_
  have : rowAt (n - 1) h r = rowAt n hn r := Fin.ext (by simp only [rowAt]; omega)
  rw [this]

/-- The product of the hidden row with the columns of the tile of grid point `t`. -/
theorem mixed_eq (c : Dev nD) (t : Fin cfg0.N) (j : Fin 7) (hj : t.val % 7 = j.val) (h : FVec Ideal S512x1024 .bf16) (r : Fin 512)
    (hh : ∀ k, h (ix2 r k) = hiddenRow m c (rowAt t.val t.isLt r) k) (q : Fin 1024) :
    mixed (fun k => h (ix2 r k)) (fun k q => iblk m c 3 t (ix2 k q)) q =
      mixedArr (hiddenArr (m ((c : Thread nD τ).loc main_arg0)) (m ((c : Thread nD τ).loc main_arg1)) (m ((c : Thread nD τ).loc main_arg2)))
        (m ((c : Thread nD τ).loc main_arg3)) (ix3 (batch (rowAt t.val t.isLt r)) ⟨(rowAt t.val t.isLt r).val % 4096, by omega⟩ (column j q)) := by
  refine Eq.trans ?_ (mixedArr_rows _ _ _ _ _ _).symm
  unfold mixed
  refine Finset.sum_congr rfl fun k _ => congrArg₂ _ (hh k) ?_
  blk_point [iblk, V, index_maps t, column]

theorem tile_0 (c : Dev nD) (t : Fin cfg0.N) (h : t.val % 7 = 0) (r : Fin 512) (q : Fin 1024) :
    (outsAt0 m c t.val t.isLt).1 (ix2 r q) = target m c (ix2 (rowAt t.val t.isLt r) (column 0 q)) := by
  rw [target, refArr_rows, tilesArr_0, ← mixed_eq m c t 0 h _ r (first_scratch m c t h r) q,
    outsAt0_A m c t h h (by omega) (by omega) (by omega) (by omega)]
  frame_out
  exact tile0_kernel _ _ r q

theorem tile_1 (c : Dev nD) (t : Fin cfg0.N) (h : t.val % 7 = 1) (r : Fin 512) (q : Fin 1024) :
    (outsAt0 m c t.val t.isLt).1 (ix2 r q) = target m c (ix2 (rowAt t.val t.isLt r) (column 1 q)) := by
  have e := mixed_eq m c t 1 h _ r (scratch_before m c t.val t.isLt (by omega) (Nat.lt_of_le_of_lt (Nat.sub_le _ _) t.isLt) r)
  rw [target, refArr_rows, tilesArr_1]
  simp only [← e]
  rw [outsAt0_B m c t (by omega) (by omega) h (by omega) (by omega) (by omega)]
  frame_out
  rw [read_unread_whole]
  refine (tile1_kernel _ _ _ _ r q).trans ?_
  refine congrArg₂ (fun lg lb => normed _ lg lb q) (funext fun k => ?_) (funext fun k => ?_) <;>
    blk_point [iblk, V, index_maps t]

theorem tile_2 (c : Dev nD) (t : Fin cfg0.N) (h : t.val % 7 = 2) (r : Fin 512) (q : Fin 1024) :
    (outsAt0 m c t.val t.isLt).1 (ix2 r q) = target m c (ix2 (rowAt t.val t.isLt r) (column 2 q)) := by
  rw [target, refArr_rows, tilesArr_2, ← mixed_eq m c t 2 h _ r
      (scratch_before m c t.val t.isLt (by omega) (Nat.lt_of_le_of_lt (Nat.sub_le _ _) t.isLt) r) q,
    outsAt0_C m c t (by omega) (by omega) (by omega) h (by omega) (by omega)]
  frame_out
  rw [read_unread_whole]
  exact tile2_kernel _ _ r q

theorem tile_3 (c : Dev nD) (t : Fin cfg0.N) (h : t.val % 7 = 3) (r : Fin 512) (q : Fin 1024) :
    (outsAt0 m c t.val t.isLt).1 (ix2 r q) = target m c (ix2 (rowAt t.val t.isLt r) (column 3 q)) := by
  rw [target, refArr_rows, tilesArr_3, ← mixed_eq m c t 3 h _ r
      (scratch_before m c t.val t.isLt (by omega) (Nat.lt_of_le_of_lt (Nat.sub_le _ _) t.isLt) r) q,
    outsAt0_D m c t (by omega) (by omega) (by omega) (by omega) (by omega) (by omega)]
  frame_out
  rw [read_unread_whole]
  exact tile3_kernel _ _ r q

theorem tile_4 (c : Dev nD) (t : Fin cfg0.N) (h : t.val % 7 = 4) (r : Fin 512) (q : Fin 1024) :
    (outsAt0 m c t.val t.isLt).1 (ix2 r q) = target m c (ix2 (rowAt t.val t.isLt r) (column 4 q)) := by
  rw [target, refArr_rows, tilesArr_4, ← mixed_eq m c t 4 h _ r
      (scratch_before m c t.val t.isLt (by omega) (Nat.lt_of_le_of_lt (Nat.sub_le _ _) t.isLt) r) q,
    outsAt0_D m c t (by omega) (by omega) (by omega) (by omega) (by omega) (by omega)]
  frame_out
  rw [read_unread_whole]
  exact tile3_kernel _ _ r q

theorem tile_5 (c : Dev nD) (t : Fin cfg0.N) (h : t.val % 7 = 5) (r : Fin 512) (q : Fin 1024) :
    (outsAt0 m c t.val t.isLt).1 (ix2 r q) = target m c (ix2 (rowAt t.val t.isLt r) (column 5 q)) := by
  rw [target, refArr_rows, tilesArr_5, ← mixed_eq m c t 5 h _ r
      (scratch_before m c t.val t.isLt (by omega) (Nat.lt_of_le_of_lt (Nat.sub_le _ _) t.isLt) r) q,
    outsAt0_E m c t (by omega) (by omega) (by omega) (by omega) (by omega) (by omega)]
  frame_out
  rw [read_unread_whole]
  exact tile5_kernel _ _ r q

theorem tile_6 (c : Dev nD) (t : Fin cfg0.N) (h : t.val % 7 = 6) (r : Fin 512) (q : Fin 1024) :
    (outsAt0 m c t.val t.isLt).1 (ix2 r q) = target m c (ix2 (rowAt t.val t.isLt r) (column 6 q)) := by
  rw [target, refArr_rows, tilesArr_6, ← mixed_eq m c t 6 h _ r
      (scratch_before m c t.val t.isLt (by omega) (Nat.lt_of_le_of_lt (Nat.sub_le _ _) t.isLt) r) q,
    outsAt0_E m c t (by omega) (by omega) (by omega) (by omega) (by omega) (by omega)]
  frame_out
  rw [read_unread_whole]
  exact tile5_kernel _ _ r q

theorem tile_eq (c : Dev nD) (t : Fin cfg0.N) (j : Fin 7) (h : t.val % 7 = j.val) (r : Fin 512) (q : Fin 1024) :
    (outsAt0 m c t.val t.isLt).1 (ix2 r q) = target m c (ix2 (rowAt t.val t.isLt r) (column j q)) :=
  match j, h with
  | 0, h => tile_0 m c t h r q
  | 1, h => tile_1 m c t h r q
  | 2, h => tile_2 m c t h r q
  | 3, h => tile_3 m c t h r q
  | 4, h => tile_4 m c t h r q
  | 5, h => tile_5 m c t h r q
  | 6, h => tile_6 m c t h r q

theorem final (c : Dev nD) : (dats m 0 c).arrAt 6 (cfgs 0).N = target m c := by
  refine (dats m 0 c).arrAt_eq_of_covers 6 _ (by decide +kernel) fun t hf y => ?_
  blk_simp; rw [after0_6]
  idx_vars y
  have hy := y0.isLt
  have hz := y1.isLt
  have ht : t.val < 224 := t.isLt
  refine (tile_eq m c t ⟨t.val % 7, Nat.mod_lt _ (by decide)⟩ rfl y0 y1).trans (congrArg _ ?_)
  blk_ext [index_maps t, rowAt, column]

end ProjRows
-- ==== Proof.MergeMath.lean ====
/- The merge of the two branches row by row, in exact arithmetic. -/
module

public import proofs.«01_k».proof.Proof.Gen.MergeIdeal.Frame
public import proofs.«01_k».proof.Proof.Gen.MergeRefIdeal.Run
public import proofs.«01_k».proof.Proof.FfnMath
public import proofs.«01_k».proof.Proof.Consts
public import Idealize.ShloMosaic.Lib.Pointwise

@[expose] public section

set_option maxRecDepth 16384

noncomputable section

open Idealize.ShloMosaic Idealize.ShloMosaic.TcCoe Idealize.SL.Sem
open FfnRows (batch)

namespace MergeRows

/-- The group a column belongs to. -/
def group (k : Fin 1024) : Fin 8 := ⟨k.val / 128, by omega⟩

/-- One entry of the first branch: `u` times the causal mixture of its chunk's rows of `v`, plus a bias. `i` is the row in
    the chunk. -/
def gated (u : EReal) (v : Fin 128 → EReal) (w : Fin 128 → EReal) (b : EReal) (i : Fin 128) : EReal :=
  u * ((∑ s, (if s.val ≤ i.val then w s else 0) * v s) + b)

/-- One entry of a row after both branches are projected, gated, added and projected. -/
def merged (ga gb ya yb : Fin 1024 → EReal) (wa wb wo : Fin 1024 → Fin 1024 → EReal) (k : Fin 1024) : EReal :=
  ∑ q, (ga q * (∑ l, ya l * wa l q) + gb q * (∑ l, yb l * wb l q)) * wo q k

section Kernel
open Cert.MergeIdeal Cert.MergeIdeal.Gen

theorem tile_kernel (w : FVec Ideal S1x128x128 .f32) (b : FVec Ideal S128x1 .f32) (v u : FVec Ideal S128x128 .bf16) (i d : Fin 128) :
    k0_pay5 (F := Ideal) w b v u (ix2 i d) =
      gated (u (ix2 i d)) (fun s => v (ix2 s d)) (fun s => w (ix3 0 i s)) (b (ix2 i 0)) i := by
  pointwise! [k0_pay5, k0_pay3, k0_pay2, k0_pay4, gated]
  refine congrArg (fun z => u (ix2 i d) * (z + b (ix2 i 0))) (Finset.sum_congr rfl fun s _ => ?_)
  rw [Patterns.select_sle (by omega) (by omega), ite_mul, zero_mul]

theorem out_kernel (ya : FVec Ideal S512x1024 .bf16) (wa : FVec Ideal S1024x1024 .bf16) (yb : FVec Ideal S512x1024 .bf16)
    (wb : FVec Ideal S1024x1024 .bf16) (ga gb : FVec Ideal S512x1024 .bf16) (wo : FVec Ideal S1024x1024 .bf16)
    (x : FVec Ideal S512x1024 .f32) (gt : FVec Ideal S1x1x1024 .f32) (r : Fin 512) (k : Fin 1024) :
    k0_pay1 (F := Ideal) ya wa yb wb ga gb wo x gt (ix2 r k) =
      x (ix2 r k) + gt (ix3 0 0 k) * merged (fun k => ga (ix2 r k)) (fun k => gb (ix2 r k)) (fun k => ya (ix2 r k))
        (fun k => yb (ix2 r k)) (fun l q => wa (ix2 l q)) (fun l q => wb (ix2 l q)) (fun l q => wo (ix2 l q)) k := by
  pointwise! [k0_pay1, merged]

end Kernel

section Reference
open Cert.MergeRefIdeal Cert.MergeRefIdeal.Gen Cert.MergeRefIdeal.Value

/-- The projections' rows, grouped by batch. -/
def rowsArr (p : FVec Ideal S16384x7168 .bf16) : FVec Ideal S4x4096x7168 .f32 :=
  shapeCast _ (extf .f32 p bitsLt_bf16_f32) shapeCasts_S16384x7168_S4x4096x7168

/-- The weights over the past of each position. -/
def causalArr (w : FVec Ideal S8x128x128 .f32) : FVec Ideal S8x128x128 .f32 :=
  mulf w (broadcastInDim S8x128x128 ![0, 1, 2] bcast_S1x128x128_S8x128x128_0_1_2 (broadcastInDim S1x128x128 ![1, 2] bcast_S128x128_S1x128x128_1_2
    (uitofp .f32 (select (cmpi .sge (addi (iotaInDim S128x128 32 0) (broadcastInDim S128x128 ![] bcast_S_S128x128 (constantI S_ 32 0#32)))
      (iotaInDim S128x128 32 1)) (broadcastInDim S128x128 ![] bcast_S_S128x128 (constantI S_ 1 1#1))
      (broadcastInDim S128x128 ![] bcast_S_S128x128 (constantI S_ 1 0#1))))))

/-- The chunks' mixtures with their biases. -/
def mixedArr (v : FVec Ideal S4x4096x1024 .f32) (w : FVec Ideal S8x128x128 .f32) (b : FVec Ideal S8x128 .f32) : FVec Ideal S4x32x128x8x128 .f32 :=
  addf (transpose S4x32x128x8x128 [1, 2, 4, 0, 3] (Host.dotGeneral dot_S4x32x128x8x128_S8x128x128_S8x4x32x128x128_2_2_014_1_3_0 none
    (shapeCast _ v shapeCasts_S4x4096x1024_S4x32x128x8x128) (causalArr w)) transposes_S8x4x32x128x128_S4x32x128x8x128_1_2_4_0_3)
    (broadcastInDim S4x32x128x8x128 ![0, 1, 2, 3, 4] bcast_S1x1x128x8x1_S4x32x128x8x128_0_1_2_3_4
      (broadcastInDim S1x1x128x8x1 ![2, 3] bcast_S128x8_S1x1x128x8x1_2_3 (transpose S128x8 [1, 0] b transposes_S8x128_S128x8_1_0)))

/-- The first branch. -/
def branchArr (p : FVec Ideal S4x4096x7168 .f32) (w : FVec Ideal S8x128x128 .f32) (b : FVec Ideal S8x128 .f32) : FVec Ideal S4x4096x1024 .f32 :=
  mulf (extractStridedSlice S4x4096x1024 ![0, 0, 0] p slices_S4x4096x7168_S4x4096x1024_0_0_0)
    (shapeCast _ (mixedArr (extractStridedSlice S4x4096x1024 ![0, 0, 1024] p slices_S4x4096x7168_S4x4096x1024_0_0_1024) w b)
      shapeCasts_S4x32x128x8x128_S4x4096x1024)

/-- A product with a matrix. -/
def dotArr (a : FVec Ideal S4x4096x1024 .f32) (w : FVec Ideal S1024x1024 .f32) : FVec Ideal S4x4096x1024 .f32 :=
  Host.dotGeneral dot_S4x4096x1024_S1024x1024_S4x4096x1024_2_0_01_1_n_n none a w

/-- The second branch's rows, grouped by batch. -/
def secondArr (y : FVec Ideal S16384x1024 .bf16) : FVec Ideal S4x4096x1024 .f32 :=
  shapeCast _ (extf .f32 y bitsLt_bf16_f32) shapeCasts_S16384x1024_S4x4096x1024

/-- The two branches gated and added. -/
def gatedArr (p : FVec Ideal S4x4096x7168 .f32) (ya yb : FVec Ideal S4x4096x1024 .f32) (wa wb : FVec Ideal S1024x1024 .f32) :
    FVec Ideal S4x4096x1024 .f32 :=
  addf (mulf (extractStridedSlice S4x4096x1024 ![0, 0, 5120] p slices_S4x4096x7168_S4x4096x1024_0_0_5120) (dotArr ya wa))
    (mulf (extractStridedSlice S4x4096x1024 ![0, 0, 6144] p slices_S4x4096x7168_S4x4096x1024_0_0_6144) (dotArr yb wb))

/-- The residual sum. -/
def addedArr (x : FVec Ideal S16384x1024 .f32) (md : FVec Ideal S4x6x1024 .f32) (o : FVec Ideal S4x4096x1024 .f32) :
    FVec Ideal S16384x1024 .f32 :=
  shapeCast _ (addf (shapeCast _ x shapeCasts_S16384x1024_S4x4096x1024)
    (mulf (broadcastInDim S4x4096x1024 ![0, 1, 2] bcast_S4x1x1024_S4x4096x1024_0_1_2 (broadcastInDim S4x1x1024 ![0, 2] bcast_S4x1024_S4x1x1024_0_2
      (shapeCast _ (extractStridedSlice S4x1x1024 ![0, 2, 0] md slices_S4x6x1024_S4x1x1024_0_2_0) shapeCasts_S4x1x1024_S4x1024))) o))
    shapeCasts_S4x4096x1024_S16384x1024

/-- The reference's result, from its arguments. -/
def refArr (x : FVec Ideal S16384x1024 .f32) (p : FVec Ideal S16384x7168 .bf16) (yb : FVec Ideal S16384x1024 .bf16)
    (w : FVec Ideal S8x128x128 .f32) (b : FVec Ideal S8x128 .f32) (wa wb wo : FVec Ideal S1024x1024 .f32) (md : FVec Ideal S4x6x1024 .f32) :
    FVec Ideal S16384x1024 .f32 :=
  addedArr x md (dotArr (gatedArr (rowsArr p) (branchArr (rowsArr p) w b) (secondArr yb) wa wb) wo)

theorem bit_one : (FloatOps.uitofp (F := Ideal) .f32 1#1 : EReal) = 1 := by
  simp [FloatOps.uitofp]

theorem bit_zero : (FloatOps.uitofp (F := Ideal) .f32 0#1 : EReal) = 0 := by
  simp [FloatOps.uitofp]

theorem causalArr_at (w : FVec Ideal S8x128x128 .f32) (g : Fin 8) (i s : Fin 128) :
    causalArr w (ix3 g i s) = if s.val ≤ i.val then w (ix3 g i s) else 0 := by
  pointwise! [causalArr]
  have e : IntOp.addi (BitVec.ofNat 32 i.val) 0#32 = BitVec.ofNat 32 i.val := by simp [IntOp.addi]
  rw [e, Patterns.select_sge (by omega) (by omega)]
  split
  · exact (congrArg (w (ix3 g i s) * ·) bit_one).trans (mul_one _)
  · exact (congrArg (w (ix3 g i s) * ·) bit_zero).trans (mul_zero _)

theorem mixedArr_at (v : FVec Ideal S4x4096x1024 .f32) (w : FVec Ideal S8x128x128 .f32) (b : FVec Ideal S8x128 .f32)
    (n : Fin 4) (z : Fin 32) (i : Fin 128) (g : Fin 8) (d : Fin 128) :
    mixedArr v w b (ix5 n z i g d) =
      (∑ s : Fin 128, (if s.val ≤ i.val then w (ix3 g i s) else 0) * v (ix3 n ⟨z.val * 128 + s.val, by omega⟩ ⟨g.val * 128 + d.val, by omega⟩)) + b (ix2 g i) := by
  pointwise [mixedArr, causalArr_at]
  exact congrArg (· + b (ix2 g i)) (Finset.sum_congr rfl fun s _ => mul_comm _ _)

theorem branchArr_at (p : FVec Ideal S4x4096x7168 .f32) (w : FVec Ideal S8x128x128 .f32) (b : FVec Ideal S8x128 .f32)
    (n : Fin 4) (s : Fin 4096) (k : Fin 1024) :
    branchArr p w b (ix3 n s k) =
      gated (p (ix3 n s ⟨k.val, by omega⟩)) (fun z => p (ix3 n ⟨s.val / 128 * 128 + z.val, by omega⟩ ⟨1024 + k.val, by omega⟩))
        (fun z => w (ix3 (group k) ⟨s.val % 128, by omega⟩ z)) (b (ix2 (group k) ⟨s.val % 128, by omega⟩)) ⟨s.val % 128, by omega⟩ := by
  have e : k.val / 128 * 128 + k.val % 128 = k.val := by omega
  pointwise [branchArr, mixedArr_at, gated, group]
  simp only [e]

theorem gatedArr_at (p : FVec Ideal S4x4096x7168 .f32) (ya yb : FVec Ideal S4x4096x1024 .f32) (wa wb wo : FVec Ideal S1024x1024 .f32)
    (n : Fin 4) (s : Fin 4096) (k : Fin 1024) :
    dotArr (gatedArr p ya yb wa wb) wo (ix3 n s k) =
      merged (fun k => p (ix3 n s ⟨5120 + k.val, by omega⟩)) (fun k => p (ix3 n s ⟨6144 + k.val, by omega⟩)) (fun k => ya (ix3 n s k))
        (fun k => yb (ix3 n s k)) (fun l q => wa (ix2 l q)) (fun l q => wb (ix2 l q)) (fun l q => wo (ix2 l q)) k := by
  pointwise [gatedArr, dotArr, merged]

theorem refArr_at (x : FVec Ideal S16384x1024 .f32) (p : FVec Ideal S16384x7168 .bf16) (yb : FVec Ideal S16384x1024 .bf16)
    (w : FVec Ideal S8x128x128 .f32) (b : FVec Ideal S8x128 .f32) (wa wb wo : FVec Ideal S1024x1024 .f32) (md : FVec Ideal S4x6x1024 .f32)
    (r : Fin 16384) (k : Fin 1024) :
    refArr x p yb w b wa wb wo md (ix2 r k) =
      x (ix2 r k) + md (ix3 (batch r) 2 k) * merged (fun k => p (ix2 r ⟨5120 + k.val, by omega⟩)) (fun k => p (ix2 r ⟨6144 + k.val, by omega⟩))
        (fun k => gated (p (ix2 r ⟨k.val, by omega⟩)) (fun z => p (ix2 ⟨r.val / 128 * 128 + z.val, by omega⟩ ⟨1024 + k.val, by omega⟩))
          (fun z => w (ix3 (group k) ⟨r.val % 128, by omega⟩ z)) (b (ix2 (group k) ⟨r.val % 128, by omega⟩)) ⟨r.val % 128, by omega⟩)
        (fun k => yb (ix2 r k)) (fun l q => wa (ix2 l q)) (fun l q => wb (ix2 l q)) (fun l q => wo (ix2 l q)) k := by
  pointwise [refArr, addedArr, gatedArr_at, branchArr_at, rowsArr, secondArr, batch]
  have e1 : r.val % 4096 % 128 = r.val % 128 := by omega
  have e2 : ∀ z, r.val / 4096 * 4096 + (r.val % 4096 / 128 * 128 + z) = r.val / 128 * 128 + z := fun z => by omega
  simp only [e1, e2]

end Reference

end MergeRows
-- ==== Proof.MergeValue.lean ====
/- The merge kernel's result array is the reference's, in exact arithmetic. -/
module

public import proofs.«01_k».proof.Proof.MergeMath
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open FfnRows (batch)

namespace MergeRows

open Cert.MergeIdeal Cert.MergeIdeal.Gen

variable (m : (ℓ : Loc nD τ sig) → Buf (Elt Ideal) ℓ)

theorem index_maps : ∀ t : Fin cfg0.N, win0_0.index t = ![t.val, 0] ∧ win0_1.index t = ![t.val, 0]
    ∧ win0_2.index t = ![t.val, 1] ∧ win0_3.index t = ![t.val, 5] ∧ win0_4.index t = ![t.val, 6]
    ∧ win0_5.index t = ![t.val, 0] ∧ win0_6.index t = ![0, 0, 0] ∧ win0_7.index t = ![0, 0] ∧ win0_8.index t = ![0, 0]
    ∧ win0_9.index t = ![0, 0] ∧ win0_10.index t = ![0, 0] ∧ win0_11.index t = ![t.val / 8, 0, 0] ∧ win0_12.index t = ![t.val, 0] :=
  (by decide +kernel : ∀ t : Fin grid0.N, _)

/-- The reference's result over the kernel's arguments. -/
abbrev target (c : Dev nD) : FVec Ideal S16384x1024 .f32 :=
  refArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The first branch's block, over the blocks the kernel reads. -/
def branch (u v : Vec Ideal S512x1024 .bf16) (w : Vec Ideal S8x128x128 .f32) (b : Vec Ideal S128x8 .f32) (r : Fin 512) (k : Fin 1024) : EReal :=
  gated (u (ix2 r k)) (fun z => v (ix2 ⟨r.val / 128 * 128 + z.val, by omega⟩ k))
    (fun z => w (ix3 (group k) ⟨r.val % 128, by omega⟩ z)) (b (ix2 ⟨r.val % 128, by omega⟩ (group k))) ⟨r.val % 128, by omega⟩

theorem tile_at (u v : Vec Ideal S512x1024 .bf16) (w : Vec Ideal S8x128x128 .f32) (b : Vec Ideal S128x8 .f32) (g h : ℕ) (hg : g < 8) (hh : h < 4)
    (i6 : ∀ a, (![g, 0, 0] : Fin 3 → ℕ) a + (![1, 128, 128] : Fin 3 → ℕ) a ≤ S8x128x128.size a)
    (i7 : ∀ a, (![0, g] : Fin 2 → ℕ) a + (![128, 1] : Fin 2 → ℕ) a ≤ S128x8.size a)
    (i2 : ∀ a, (![128 * h, 128 * g] : Fin 2 → ℕ) a + (![128, 128] : Fin 2 → ℕ) a ≤ S512x1024.size a) (i d : Fin 128) :
    k0_pay5 (F := Ideal) (View.ld w (Rect.unit ![g, 0, 0] ![1, 128, 128] i6))
      (View.ld b (Rect.unit ![0, g] ![128, 1] i7)) (View.ld v (Rect.unit ![128 * h, 128 * g] ![128, 128] i2))
      (View.ld u (Rect.unit ![128 * h, 128 * g] ![128, 128] i2)) (ix2 i d) =
    branch u v w b ⟨128 * h + i.val, by omega⟩ ⟨128 * g + d.val, by omega⟩ := by
  refine (tile_kernel _ _ _ _ i d).trans ?_
  have e1 : (128 * g + d.val) / 128 = g := by omega
  have e2 : (128 * h + i.val) % 128 = i.val := by omega
  have e3 : (128 * h + i.val) / 128 * 128 = 128 * h := by omega
  simp only [branch, group, e1, e2, e3]
  have ld2 : ∀ (z : Vec Ideal S512x1024 .bf16) (j : Fin 128), View.ld z (Rect.unit ![128 * h, 128 * g] ![128, 128] i2) (ix2 j d) =
      z (ix2 ⟨128 * h + j.val, by omega⟩ ⟨128 * g + d.val, by omega⟩) := fun z j => by
    refine congrArg z (funext fun a => Fin.ext ((ValueKit.rect_emb_unit_val _ _ _ _ a).trans ?_))
    match a with
    | 0 => rfl
    | 1 => rfl
  have ld3 : ∀ s : Fin 128, View.ld w (Rect.unit ![g, 0, 0] ![1, 128, 128] i6) (ix3 0 i s) = w (ix3 ⟨g, hg⟩ i s) := fun s => by
    refine congrArg w (funext fun a => Fin.ext ((ValueKit.rect_emb_unit_val _ _ _ _ a).trans ?_))
    match a with
    | 0 => rfl
    | 1 => exact Nat.zero_add _
    | 2 => exact Nat.zero_add _
  have ldb : View.ld b (Rect.unit ![0, g] ![128, 1] i7) (ix2 i 0) = b (ix2 i ⟨g, hg⟩) := by
    refine congrArg b (funext fun a => Fin.ext ((ValueKit.rect_emb_unit_val _ _ _ _ a).trans ?_))
    match a with
    | 0 => exact Nat.zero_add _
    | 1 => rfl
  simp only [ld3, ldb]
  exact congrArg₂ (fun a f => gated a f _ _ i) (ld2 u i) (funext fun s => ld2 v s)

theorem tile_emb (u v : Vec Ideal S512x1024 .bf16) (w : Vec Ideal S8x128x128 .f32) (b : Vec Ideal S128x8 .f32) (g h : ℕ) (hg : g < 8) (hh : h < 4)
    (i6 : ∀ a, (![g, 0, 0] : Fin 3 → ℕ) a + (![1, 128, 128] : Fin 3 → ℕ) a ≤ S8x128x128.size a)
    (i7 : ∀ a, (![0, g] : Fin 2 → ℕ) a + (![128, 1] : Fin 2 → ℕ) a ≤ S128x8.size a)
    (i2 : ∀ a, (![128 * h, 128 * g] : Fin 2 → ℕ) a + (![128, 128] : Fin 2 → ℕ) a ≤ S512x1024.size a)
    (x : (Rect.unit (s := S512x1024) ![128 * h, 128 * g] ![128, 128] i2).shape.Idx) :
    k0_pay5 (F := Ideal) (View.ld w (Rect.unit ![g, 0, 0] ![1, 128, 128] i6))
      (View.ld b (Rect.unit ![0, g] ![128, 1] i7)) (View.ld v (Rect.unit ![128 * h, 128 * g] ![128, 128] i2))
      (View.ld u (Rect.unit ![128 * h, 128 * g] ![128, 128] i2)) x =
    branch u v w b ((Rect.unit (s := S512x1024) ![128 * h, 128 * g] ![128, 128] i2).emb x 0)
      ((Rect.unit (s := S512x1024) ![128 * h, 128 * g] ![128, 128] i2).emb x 1) := by
  refine (congrArg _ (show x = ix2 (n0 := 128) (n1 := 128) (x 0) (x 1) from (ix2_eta x).symm)).trans
    ((tile_at u v w b g h hg hh i6 i7 i2 (x 0) (x 1)).trans ?_)
  exact congrArg₂ (branch u v w b) (Fin.ext (ValueKit.rect_emb_unit_val (s := S512x1024) ![128 * h, 128 * g] ![128, 128] i2 x 0).symm)
    (Fin.ext (ValueKit.rect_emb_unit_val (s := S512x1024) ![128 * h, 128 * g] ![128, 128] i2 x 1).symm)

/-- One entry of the kernel's result block, over the blocks it reads. -/
def outEntry (x : Vec Ideal S512x1024 .f32) (u v ga gb yb : Vec Ideal S512x1024 .bf16) (w : Vec Ideal S8x128x128 .f32) (b : Vec Ideal S128x8 .f32)
    (wa wb wo : Vec Ideal S1024x1024 .bf16) (gt : EReal) (r : Fin 512) (k : Fin 1024) : EReal :=
  let xe : EReal := x (ix2 r k)
  xe + gt * merged (fun k => ga (ix2 r k)) (fun k => gb (ix2 r k)) (fun k => branch u v w b r k) (fun k => yb (ix2 r k))
    (fun l q => wa (ix2 l q)) (fun l q => wb (ix2 l q)) (fun l q => wo (ix2 l q)) k

/-- A load of the whole scratch after stores that agree with one function and cover it. -/
theorem load_of_pieces {κ : Kind} {sp : Space} (v : View sig κ sp S512x1024 .bf16) (L : List (View.Piece (Elt Ideal) S512x1024 .bf16))
    (G : Fin 512 → Fin 1024 → EReal)
    (hG : ∀ p ∈ L, ∀ x : p.1.shape.Idx, p.2 x = G (p.1.emb x 0) (p.1.emb x 1))
    (hc : ∀ y : S512x1024.Idx, ∃ p ∈ L, y ∈ p.1.set) (r : Fin 512) (k : Fin 1024) :
    v.readCov L (Rect.unit (s := S512x1024) ![0, 0] ![512, 1024] inb_S512x1024_S512x1024_0_0).toLoadRect (ix2 r k) = G r k := by
  refine (View.read_writes_apply_of_pieces v v.junk (fun y => G (y 0) (y 1)) L hG
    ((Rect.unit (s := S512x1024) ![0, 0] ![512, 1024] inb_S512x1024_S512x1024_0_0).emb (ix2 r k)) (hc _)).trans ?_
  exact congrArg₂ G
      (Fin.ext ((ValueKit.rect_emb_unit_val (s := S512x1024) ![0, 0] ![512, 1024] inb_S512x1024_S512x1024_0_0 (ix2 r k) 0).trans (Nat.zero_add _)))
      (Fin.ext ((ValueKit.rect_emb_unit_val (s := S512x1024) ![0, 0] ![512, 1024] inb_S512x1024_S512x1024_0_0 (ix2 r k) 1).trans (Nat.zero_add _)))

theorem block_out (c : Dev nD) (t : Fin cfg0.N) (r : Fin 512) (k : Fin 1024) : outsAt0 m c t (ix2 r k) =
    outEntry (iblk m c 0 t) (iblk m c 1 t) (iblk m c 2 t) (iblk m c 3 t) (iblk m c 4 t) (iblk m c 5 t) (iblk m c 6 t) (iblk m c 7 t)
      (iblk m c 8 t) (iblk m c 9 t) (iblk m c 10 t) (View.ld (iblk m c 11 t) (Rect.unit ![0, 2, 0] ![1, 1, 1024] inb_S1x6x1024_S1x1x1024_0_2_0) (ix3 0 0 k)) r k := by
  unfold outsAt0; frame_out
  refine (out_kernel _ _ _ _ _ _ _ _ _ r k).trans ?_
  unfold outEntry
  refine congrArg (fun f => _ + _ * merged _ _ f _ _ _ _ k) (funext fun q => ?_)
  refine load_of_pieces _ _ (branch (iblk m c 1 t) (iblk m c 2 t) (iblk m c 6 t) (iblk m c 7 t)) ?_ ?_ r q
  · simp only [List.forall_mem_cons]
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun _ h => absurd h List.not_mem_nil⟩
    · exact tile_emb _ _ _ _ 7 3 (by decide) (by decide) _ _ _ x
    · exact tile_emb _ _ _ _ 7 2 (by decide) (by decide) _ _ _ x
    · exact tile_emb _ _ _ _ 7 1 (by decide) (by decide) _ _ _ x
    · exact tile_emb _ _ _ _ 7 0 (by decide) (by decide) _ _ _ x
    · exact tile_emb _ _ _ _ 6 3 (by decide) (by decide) _ _ _ x
    · exact tile_emb _ _ _ _ 6 2 (by decide) (by decide) _ _ _ x
    · exact tile_emb _ _ _ _ 6 1 (by decide) (by decide) _ _ _ x
    · exact tile_emb _ _ _ _ 6 0 (by decide) (by decide) _ _ _ x
    · exact tile_emb _ _ _ _ 5 3 (by decide) (by decide) _ _ _ x
    · exact tile_emb _ _ _ _ 5 2 (by decide) (by decide) _ _ _ x
    · exact tile_emb _ _ _ _ 5 1 (by decide) (by decide) _ _ _ x
    · exact tile_emb _ _ _ _ 5 0 (by decide) (by decide) _ _ _ x
    · exact tile_emb _ _ _ _ 4 3 (by decide) (by decide) _ _ _ x
    · exact tile_emb _ _ _ _ 4 2 (by decide) (by decide) _ _ _ x
    · exact tile_emb _ _ _ _ 4 1 (by decide) (by decide) _ _ _ x
    · exact tile_emb _ _ _ _ 4 0 (by decide) (by decide) _ _ _ x
    · exact tile_emb _ _ _ _ 3 3 (by decide) (by decide) _ _ _ x
    · exact tile_emb _ _ _ _ 3 2 (by decide) (by decide) _ _ _ x
    · exact tile_emb _ _ _ _ 3 1 (by decide) (by decide) _ _ _ x
    · exact tile_emb _ _ _ _ 3 0 (by decide) (by decide) _ _ _ x
    · exact tile_emb _ _ _ _ 2 3 (by decide) (by decide) _ _ _ x
    · exact tile_emb _ _ _ _ 2 2 (by decide) (by decide) _ _ _ x
    · exact tile_emb _ _ _ _ 2 1 (by decide) (by decide) _ _ _ x
    · exact tile_emb _ _ _ _ 2 0 (by decide) (by decide) _ _ _ x
    · exact tile_emb _ _ _ _ 1 3 (by decide) (by decide) _ _ _ x
    · exact tile_emb _ _ _ _ 1 2 (by decide) (by decide) _ _ _ x
    · exact tile_emb _ _ _ _ 1 1 (by decide) (by decide) _ _ _ x
    · exact tile_emb _ _ _ _ 1 0 (by decide) (by decide) _ _ _ x
    · exact tile_emb _ _ _ _ 0 3 (by decide) (by decide) _ _ _ x
    · exact tile_emb _ _ _ _ 0 2 (by decide) (by decide) _ _ _ x
    · exact tile_emb _ _ _ _ 0 1 (by decide) (by decide) _ _ _ x
    · exact tile_emb _ _ _ _ 0 0 (by decide) (by decide) _ _ _ x
  · exact fun y => View.cover_of_tiledL _ (![128, 128] : Fin 2 → ℕ) (by sl_kernel_rfl) y

/-- Array row of a block row. -/
def rowAt (t : ℕ) (ht : t < 32) (r : Fin 512) : Fin 16384 := ⟨t * 512 + r.val, by omega⟩

section Reads

variable (c : Dev nD) (t : Fin cfg0.N)

theorem read_0 (r : Fin 512) (k : Fin 1024) : iblk m c 0 t (ix2 r k) = m ((c : Thread nD τ).loc main_arg0) (ix2 (rowAt t.val t.isLt r) k) := by
  blk_point [iblk, V, index_maps t, rowAt]

theorem read_1 (r : Fin 512) (k : Fin 1024) : iblk m c 1 t (ix2 r k) = m ((c : Thread nD τ).loc main_arg1) (ix2 (rowAt t.val t.isLt r) ⟨k.val, by omega⟩) := by
  blk_point [iblk, V, index_maps t, rowAt]

theorem read_2 (r : Fin 512) (k : Fin 1024) : iblk m c 2 t (ix2 r k) = m ((c : Thread nD τ).loc main_arg1) (ix2 (rowAt t.val t.isLt r) ⟨1024 + k.val, by omega⟩) := by
  blk_point [iblk, V, index_maps t, rowAt]

theorem read_3 (r : Fin 512) (k : Fin 1024) : iblk m c 3 t (ix2 r k) = m ((c : Thread nD τ).loc main_arg1) (ix2 (rowAt t.val t.isLt r) ⟨5120 + k.val, by omega⟩) := by
  blk_point [iblk, V, index_maps t, rowAt]

theorem read_4 (r : Fin 512) (k : Fin 1024) : iblk m c 4 t (ix2 r k) = m ((c : Thread nD τ).loc main_arg1) (ix2 (rowAt t.val t.isLt r) ⟨6144 + k.val, by omega⟩) := by
  blk_point [iblk, V, index_maps t, rowAt]

theorem read_5 (r : Fin 512) (k : Fin 1024) : iblk m c 5 t (ix2 r k) = m ((c : Thread nD τ).loc main_arg2) (ix2 (rowAt t.val t.isLt r) k) := by
  blk_point [iblk, V, index_maps t, rowAt]

theorem read_6 (g : Fin 8) (i z : Fin 128) : iblk m c 6 t (ix3 g i z) = m ((c : Thread nD τ).loc main_arg3) (ix3 g i z) := by
  blk_point [iblk, V, index_maps t]

theorem read_7 (i : Fin 128) (g : Fin 8) : iblk m c 7 t (ix2 i g) = m ((c : Thread nD τ).loc main_arg4) (ix2 g i) := by
  blk_point [iblk, V, index_maps t]

theorem read_8 (l q : Fin 1024) : iblk m c 8 t (ix2 l q) = m ((c : Thread nD τ).loc main_arg5) (ix2 l q) := by
  blk_point [iblk, V, index_maps t]

theorem read_9 (l q : Fin 1024) : iblk m c 9 t (ix2 l q) = m ((c : Thread nD τ).loc main_arg6) (ix2 l q) := by
  blk_point [iblk, V, index_maps t]

theorem read_10 (l q : Fin 1024) : iblk m c 10 t (ix2 l q) = m ((c : Thread nD τ).loc main_arg7) (ix2 l q) := by
  blk_point [iblk, V, index_maps t]

theorem read_11 (r : Fin 512) (k : Fin 1024) :
    View.ld (iblk m c 11 t) (Rect.unit ![0, 2, 0] ![1, 1, 1024] inb_S1x6x1024_S1x1x1024_0_2_0) (ix3 0 0 k) =
      m ((c : Thread nD τ).loc main_arg8) (ix3 (batch (rowAt t.val t.isLt r)) 2 k) := by
  have hr := r.isLt
  blk_point [iblk, V, index_maps t, batch, rowAt]

end Reads

theorem entry_eq (c : Dev nD) (t : Fin cfg0.N) (r : Fin 512) (k : Fin 1024) :
    outsAt0 m c t (ix2 r k) = target m c (ix2 (rowAt t.val t.isLt r) k) := by
  rw [block_out, target, refArr_at]
  have e1 : (rowAt t.val t.isLt r).val % 128 = r.val % 128 := by simp only [rowAt]; omega
  have e2 : ∀ z : Fin 128, (⟨(rowAt t.val t.isLt r).val / 128 * 128 + z.val, by omega⟩ : Fin 16384) =
      rowAt t.val t.isLt ⟨r.val / 128 * 128 + z.val, by omega⟩ := fun z => Fin.ext (by simp only [rowAt]; omega)
  simp only [outEntry, branch, read_0, read_1, read_2, read_3, read_4, read_5, read_6, read_7, read_8, read_9, read_10, read_11 m c t r, e1, e2]

theorem final (c : Dev nD) : (dats m 0 c).arrAt 12 (cfgs 0).N = target m c := by
  refine (dats m 0 c).arrAt_eq_of_covers 12 _ (by decide +kernel) fun t hf y => ?_
  blk_simp; rw [after0_12]
  idx_vars y
  refine (entry_eq m c t y0 y1).trans (congrArg _ ?_)
  blk_ext [index_maps t, rowAt]

end MergeRows
-- ==== Proof.AdalnValue.lean ====
/-
  The modulation table: the kernel's result is the reference's.

  The kernel splits both factors of the product `silu c · w` into a rounded part and a remainder and adds three of
  the four partial products. With exact arithmetic the remainders are zero wherever the factors are finite, so the
  sum of the three is the product itself.
-/
module

public import proofs.«01_k».proof.Proof.Gen.AdalnIdeal
public import proofs.«01_k».proof.Proof.Gen.AdalnIdeal.Frame
public import proofs.«01_k».proof.Proof.Gen.AdalnRefIdeal
public import proofs.«01_k».proof.Proof.Gen.Pre_adaln_finite
public import proofs.«01_k».proof.Proof.Consts
public import proofs.«01_k».proof.Defs
public import Idealize.ShloMosaic.Lib.Pointwise
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace AdalnRows

open Patterns (IsReal sub_self_real isReal_of_lt)

/-- `c` times its sigmoid. -/
def silu (t : EReal) : EReal := t * Ideal.logistic t

/-- One entry of the modulation table. -/
def entry (c w : Fin 1024 → EReal) (b : EReal) : EReal := (∑ l, silu (c l) * w l) + b

theorem silu_real {x : EReal} (h : IsReal x) : IsReal (silu x) := by
  obtain ⟨y, rfl⟩ := h
  exact ⟨y * (1 + Real.exp (-y))⁻¹, by rw [silu, Ideal.logistic_coe, EReal.coe_mul]⟩

section Kernel

open Cert.AdalnIdeal Cert.AdalnIdeal.Gen

theorem kernel_entry (c : Vec Ideal S8x1024 .f32) (w : Vec Ideal S1024x1024 .f32) (b : Vec Ideal S1x1024 .f32)
    (hc : ∀ i, IsReal (c i)) (hw : ∀ i, IsReal (w i)) (i : Fin 8) (q : Fin 1024) :
    k0_pay1 (F := Ideal) c w b (ix2 i q) = entry (fun l => c (ix2 i l)) (fun l => w (ix2 l q)) (b (ix2 0 q)) := by
  pointwise [k0_pay1, entry, silu]
  simp only [sub_self_real (hw _), sub_self_real (show IsReal (c _ * Ideal.logistic (c _)) from silu_real (hc _)), mul_zero, zero_mul,
    Finset.sum_const_zero, add_zero]

end Kernel

section Reference

open Cert.AdalnRefIdeal Cert.AdalnRefIdeal.Gen

/-- The reference's result. -/
def refArr (c : FVec Ideal S8x1024 .f32) (w : FVec Ideal S1024x6144 .f32) (b : FVec Ideal S1x6144 .f32) : FVec Ideal S8x6144 .f32 :=
  addf (Host.dotGeneral dot_S8x1024_S1024x6144_S8x6144_1_0_0_1_n_n none
    (mulf c (Host.divf (broadcastInDim S8x1024 ![] bcast_S_S8x1024 (constant S_ .f32 0x3F800000#32))
      (addf (broadcastInDim S8x1024 ![] bcast_S_S8x1024 (constant S_ .f32 0x3F800000#32)) (Host.exp (Host.negf c))))) w)
    (broadcastInDim S8x6144 ![0, 1] bcast_S1x6144_S8x6144_0_1 b)

theorem refArr_at (c : FVec Ideal S8x1024 .f32) (w : FVec Ideal S1024x6144 .f32) (b : FVec Ideal S1x6144 .f32) (i : Fin 8) (q : Fin 6144) :
    refArr c w b (ix2 i q) = entry (fun l => c (ix2 i l)) (fun l => w (ix2 l q)) (b (ix2 0 q)) := by
  pointwise! [refArr, entry, silu, Ideal.logistic]

end Reference

/-! The precondition, read back. -/

open Cert.Pre_adaln_finite in
theorem finite_args (c : FVec Ideal S8x1024 .f32) (w : FVec Ideal S1024x6144 .f32) (b : FVec Ideal S1x6144 .f32)
    (h : Cert.Pre_adaln_finite.fn (F := Ideal) c w b = fun _ => 1#1) : (∀ i, IsReal (c i)) ∧ ∀ i, IsReal (w i) := by
  have h0 := congrFun h (fun a => a.elim0)
  obtain ⟨h1, h2⟩ := IntOp.andi_eq_one.mp h0
  have s : Subsingleton S_.Idx := ⟨fun a b => funext fun z => z.elim0⟩
  refine ⟨fun i => isReal_of_lt ?_, fun i => isReal_of_lt ?_⟩
  · exact Host.reduce_andi_all _ _ _ _ _ h1 i
  · exact Host.reduce_andi_all _ _ _ _ _ h2 i

open Cert.AdalnIdeal Cert.AdalnIdeal.Gen

variable (m : (ℓ : Loc nD τ sig) → Buf (Elt Ideal) ℓ)

theorem index_maps : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- The reference's result over the kernel's arguments. -/
abbrev target (c : Dev nD) : FVec Ideal S8x6144 .f32 :=
  refArr (m ((c : Thread nD τ).loc main_arg0)) (m ((c : Thread nD τ).loc main_arg1)) (m ((c : Thread nD τ).loc main_arg2))

theorem final (c : Dev nD) (hc : ∀ i, IsReal (m ((c : Thread nD τ).loc main_arg0) i)) (hw : ∀ i, IsReal (m ((c : Thread nD τ).loc main_arg1) i)) :
    (dats m 0 c).arrAt 3 (cfgs 0).N = target m c := by
  refine (dats m 0 c).arrAt_eq_of_covers 3 _ (by decide +kernel) fun t hf y => ?_
  blk_simp; rw [after0_3]; frame_out
  idx_vars y
  have ht : t.val < 6 := t.isLt
  refine (kernel_entry (iblk m c 0 t) (iblk m c 1 t) (iblk m c 2 t) (fun i => hc _) (fun i => hw _) y0 y1).trans ?_
  refine Eq.trans ?_ ((refArr_at _ _ _ y0 ⟨t.val * 1024 + y1.val, by omega⟩).symm.trans (congrArg _ ?_))
  · have r0 : ∀ l : Fin 1024, iblk m c 0 t (ix2 y0 l) = m ((c : Thread nD τ).loc main_arg0) (ix2 y0 l) := fun l => by
      blk_point [iblk, V, index_maps t]
    have r1 : ∀ l : Fin 1024, iblk m c 1 t (ix2 l y1) = m ((c : Thread nD τ).loc main_arg1) (ix2 l ⟨t.val * 1024 + y1.val, by omega⟩) := fun l => by
      blk_point [iblk, V, index_maps t]
    have r2 : iblk m c 2 t (ix2 0 y1) = m ((c : Thread nD τ).loc main_arg2) (ix2 0 ⟨t.val * 1024 + y1.val, by omega⟩) := by
      blk_point [iblk, V, index_maps t]
    simp only [r0, r1, r2]
  · blk_ext [index_maps t]

end AdalnRows
-- ==== Proof.lean ====
/-
  The claims, put together.

  Each program's frame comes from its run; each value claim sets the kernel's result array, read block by block, beside
  the reference's result over the same arguments.
-/
module

public import proofs.«01_k».proof.Defs
public import proofs.«01_k».proof.Proof.AttnFrame
public import proofs.«01_k».proof.Proof.AttnIdealFrame
public import proofs.«01_k».proof.Proof.AttnValue
public import proofs.«01_k».proof.Proof.FfnValue
public import proofs.«01_k».proof.Proof.ProjValue
public import proofs.«01_k».proof.Proof.MergeValue
public import proofs.«01_k».proof.Proof.AdalnValue
public import proofs.«01_k».proof.Proof.Gen.Adaln
public import proofs.«01_k».proof.Proof.Gen.Adaln.Frame
public import proofs.«01_k».proof.Proof.Gen.Proj
public import proofs.«01_k».proof.Proof.Gen.Proj.Frame
public import proofs.«01_k».proof.Proof.Gen.Merge
public import proofs.«01_k».proof.Proof.Gen.Merge.Frame
public import proofs.«01_k».proof.Proof.Gen.Ffn
public import proofs.«01_k».proof.Proof.Gen.Ffn.Frame
public import proofs.«01_k».proof.Proof.Gen.AttnRefIdeal.Run
public import proofs.«01_k».proof.Proof.Gen.AdalnRefIdeal.Run
public import proofs.«01_k».proof.Proof.Gen.ProjRefIdeal.Run
public import proofs.«01_k».proof.Proof.Gen.MergeRefIdeal.Run
public import proofs.«01_k».proof.Proof.Gen.FfnRefIdeal.Run
public import proofs.«01_k».proof.Proof.Gen.Pre_finite
public import proofs.«01_k».proof.Proof.Gen.Pre_adaln_finite
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.Proof

namespace Attn

theorem frame_p : Cert.quiescent_Attn := fun m ρ _ => Cert.Attn.Hand.frame m ρ

theorem frame_pi : Cert.quiescent_AttnIdeal := fun m ρ _ => Cert.AttnIdeal.Hand.frame m ρ

theorem frame_ri : Cert.quiescent_AttnRefIdeal := fun m ρ _ =>
  (θ_run Cert.AttnRefIdeal.defs _ _).mono
    (fun r h => ⟨fun c => (h c).2, Idealize.ShloMosaic.sem_eq_zero_of_no_sems (by decide) r.2⟩)
    (Cert.AttnRefIdeal.Value.run (F := Ideal) m ρ)

theorem algebraic : Cert.algebraic_AttnIdeal_AttnRefIdeal_pre_finite := by
  pair_intro
  · run_from Cert.AttnIdeal.Hand.run_main m g
  refine (θ_run Cert.AttnRefIdeal.defs _ _).mono (fun _ h c => ⟨(h c).1.trans ?_, (h c).2⟩)
    (Cert.AttnRefIdeal.Value.run (F := Ideal) m' g')
  have e0 := hagree c
  refine ((Cert.AttnRefIdeal.Value.val3_main_v100 _).symm.trans (AttnRows.reference_eq _)).trans ?_
  exact (congrArg AttnRows.outArr e0).trans (AttnRows.final m c (AttnRows.finite_arg _ (hpre c))).symm

theorem preserves : Cert.preserves_Attn_AttnIdeal := IdealRules.named_const.statement Cert.AttnIdeal.κ "mask" .f32 0xF149F2CA#32 ⊥ rfl

end Attn

namespace Adaln

theorem frame_p : Cert.quiescent_Adaln := fun m ρ _ => Cert.Adaln.Gen.frame m ρ

theorem frame_pi : Cert.quiescent_AdalnIdeal := fun m ρ _ => Cert.AdalnIdeal.Gen.frame m ρ

theorem frame_ri : Cert.quiescent_AdalnRefIdeal := fun m ρ _ =>
  (θ_run Cert.AdalnRefIdeal.defs _ _).mono
    (fun r h => ⟨fun c => (h c).2, Idealize.ShloMosaic.sem_eq_zero_of_no_sems (by decide) r.2⟩)
    (Cert.AdalnRefIdeal.Value.run (F := Ideal) m ρ)

theorem algebraic : Cert.algebraic_AdalnIdeal_AdalnRefIdeal_pre_adaln_finite := by
  pair_intro
  · run_from Cert.AdalnIdeal.Gen.run_main m g
  refine (θ_run Cert.AdalnRefIdeal.defs _ _).mono (fun _ h c => ⟨(h c).1.trans ?_, (h c).2⟩)
    (Cert.AdalnRefIdeal.Value.run (F := Ideal) m' g')
  obtain ⟨e0, e1, e2⟩ := hagree c
  obtain ⟨hc, hw⟩ := AdalnRows.finite_args _ _ _ (hpre c)
  exact (show _ = AdalnRows.refArr _ _ _ from rfl).trans ((by rw [e0, e1, e2] : _ = AdalnRows.target m c).trans
    (AdalnRows.final m c hc hw).symm)

end Adaln

namespace Proj

theorem frame_p : Cert.quiescent_Proj := fun m ρ _ => Cert.Proj.Gen.frame m ρ

theorem frame_pi : Cert.quiescent_ProjIdeal := fun m ρ _ => Cert.ProjIdeal.Gen.frame m ρ

theorem frame_ri : Cert.quiescent_ProjRefIdeal := fun m ρ _ =>
  (θ_run Cert.ProjRefIdeal.defs _ _).mono
    (fun r h => ⟨fun c => (h c).2, Idealize.ShloMosaic.sem_eq_zero_of_no_sems (by decide) r.2⟩)
    (Cert.ProjRefIdeal.Value.run (F := Ideal) m ρ)

theorem preserves : Cert.preserves_Proj_ProjIdeal :=
  IdealRules.named_const.statement Cert.ProjIdeal.κ "s" .f32 0x3DB504F3#32 (((Real.sqrt 128)⁻¹ : ℝ) : EReal) rfl

theorem algebraic : Cert.algebraic_ProjIdeal_ProjRefIdeal := by
  pair_intro
  · run_from Cert.ProjIdeal.Gen.run_main m g
  refine (θ_run Cert.ProjRefIdeal.defs _ _).mono (fun _ h c => ⟨(h c).1.trans ?_, (h c).2⟩)
    (Cert.ProjRefIdeal.Value.run (F := Ideal) m' g')
  obtain ⟨e0, e1, e2, e3, e4, e5⟩ := hagree c
  rw [ProjRows.reference_eq, e0, e1, e2, e3, e4, e5]
  exact (ProjRows.final m c).symm

end Proj

namespace Merge

theorem frame_p : Cert.quiescent_Merge := fun m ρ _ => Cert.Merge.Gen.frame m ρ

theorem frame_pi : Cert.quiescent_MergeIdeal := fun m ρ _ => Cert.MergeIdeal.Gen.frame m ρ

theorem frame_ri : Cert.quiescent_MergeRefIdeal := fun m ρ _ =>
  (θ_run Cert.MergeRefIdeal.defs _ _).mono
    (fun r h => ⟨fun c => (h c).2, Idealize.ShloMosaic.sem_eq_zero_of_no_sems (by decide) r.2⟩)
    (Cert.MergeRefIdeal.Value.run (F := Ideal) m ρ)

theorem algebraic : Cert.algebraic_MergeIdeal_MergeRefIdeal := by
  pair_intro
  · run_from Cert.MergeIdeal.Gen.run_main m g
  refine (θ_run Cert.MergeRefIdeal.defs _ _).mono (fun _ h c => ⟨(h c).1.trans ?_, (h c).2⟩)
    (Cert.MergeRefIdeal.Value.run (F := Ideal) m' g')
  obtain ⟨e0, e1, e2, e3, e4, e5, e6, e7, e8⟩ := hagree c
  exact (show _ = MergeRows.refArr _ _ _ _ _ _ _ _ _ from rfl).trans
    ((by rw [e0, e1, e2, e3, e4, e5, e6, e7, e8] : _ = MergeRows.target m c).trans (MergeRows.final m c).symm)

end Merge

namespace Ffn

theorem frame_p : Cert.quiescent_Ffn := fun m ρ _ => Cert.Ffn.Gen.frame m ρ

theorem frame_pi : Cert.quiescent_FfnIdeal := fun m ρ _ => Cert.FfnIdeal.Gen.frame m ρ

theorem frame_ri : Cert.quiescent_FfnRefIdeal := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

theorem algebraic : Cert.algebraic_FfnIdeal_FfnRefIdeal := by
  pair_intro
  · run_from Cert.FfnIdeal.Gen.run_main m g
  refine (θ_run Cert.FfnRefIdeal.defs _ _).mono (fun _ h c => ⟨(h c).1.trans ?_, (h c).2⟩)
    (Cert.FfnRefIdeal.Value.run (F := Ideal) m' g')
  obtain ⟨e0, e1, e2, e3, e4, e5, e6⟩ := hagree c
  rw [FfnRows.reference_eq, e0, e1, e2, e3, e4, e5, e6]
  exact (FfnRows.final m c).symm

end Ffn

theorem claim : Cert.Claim :=
  ⟨Cert.Attn.Gen.facts, Cert.AttnIdeal.Gen.facts, Cert.AttnRefIdeal.Gen.facts, Cert.Adaln.Gen.facts, Cert.AdalnIdeal.Gen.facts,
    Cert.AdalnRefIdeal.Gen.facts, Cert.Proj.Gen.facts, Cert.ProjIdeal.Gen.facts, Cert.ProjRefIdeal.Gen.facts,
    Cert.Merge.Gen.facts, Cert.MergeIdeal.Gen.facts, Cert.MergeRefIdeal.Gen.facts, Cert.Ffn.Gen.facts, Cert.FfnIdeal.Gen.facts,
    Cert.FfnRefIdeal.Gen.facts, Cert.Pre_finite.Gen.facts, Cert.Pre_adaln_finite.Gen.facts,
    Attn.frame_p, Attn.frame_pi, fun m ρ _ => Attn.frame_pi m ρ trivial, Attn.frame_ri, fun m ρ _ => Attn.frame_ri m ρ trivial,
    Adaln.frame_p, Adaln.frame_pi, fun m ρ _ => Adaln.frame_pi m ρ trivial, Adaln.frame_ri, fun m ρ _ => Adaln.frame_ri m ρ
    trivial, Proj.frame_p, Proj.frame_pi, Proj.frame_ri, Merge.frame_p, Merge.frame_pi, Merge.frame_ri, Ffn.frame_p, Ffn.frame_pi,
    Ffn.frame_ri, Attn.preserves, Attn.algebraic, trivial, Adaln.algebraic, Proj.preserves, Proj.algebraic, trivial,
    Merge.algebraic, trivial, Ffn.algebraic⟩

end Cert.Proof

end
